-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6))
      ∧ r.2.sem = fun _ => 0)

def preserves_Qkv_QkvIdeal : Prop :=
  IdealRules.named_const.Statement Cert.QkvIdeal.κ "inv_n" .f32 0x39CCCCCD#32 ((1 / 2560 : ℝ) : EReal)
  ∧ IdealRules.bf16_pair.PackStatement Cert.QkvIdeal.S512x128
  ∧ IdealRules.bf16_pair.Statement Cert.QkvIdeal.S512x2x128 Cert.QkvIdeal.S512x1x128

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v13_0)) (v1 : (c : Dev Cert.QkvIdeal.nD) → Buf (Elt Ideal) ((c.tc : Thread Cert.QkvIdeal.nD Cert.QkvIdeal.τ).loc Cert.QkvIdeal.main_v13_1)) (v2 : (c : Dev Cert.QkvIdeal.nD) → Buf (Elt Ideal) ((c.tc : Thread Cert.QkvIdeal.nD Cert.QkvIdeal.τ).loc Cert.QkvIdeal.main_v13_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v13_0) = v0 c
          ∧ r.2.mem ((c.tc : Thread Cert.QkvIdeal.nD Cert.QkvIdeal.τ).loc Cert.QkvIdeal.main_v13_1) = v1 c
          ∧ r.2.mem ((c.tc : Thread Cert.QkvIdeal.nD Cert.QkvIdeal.τ).loc Cert.QkvIdeal.main_v13_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v12_0) = v0 c
          ∧ r.2.mem ((c.tc : Thread Cert.QkvRefIdeal.nD Cert.QkvRefIdeal.τ).loc Cert.QkvRefIdeal.main_v12_1) = v1 c
          ∧ r.2.mem ((c.tc : Thread Cert.QkvRefIdeal.nD Cert.QkvRefIdeal.τ).loc Cert.QkvRefIdeal.main_v12_2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_OProj_OProjIdeal : Prop :=
  IdealRules.bf16_pair.Statement Cert.OProjIdeal.S512x2x128 Cert.OProjIdeal.S512x1x128
  ∧ IdealRules.bf16_pair.HalfStatement Cert.OProjIdeal.S512x128
  ∧ IdealRules.named_const.Statement Cert.OProjIdeal.κ "inv_n" .f32 0x39CCCCCD#32 ((1 / 2560 : ℝ) : EReal)

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)) →
    ∃ (v0 : (c : Dev Cert.OProjIdeal.nD) → Buf (Elt Ideal) ((c.tc : Thread Cert.OProjIdeal.nD Cert.OProjIdeal.τ).loc Cert.OProjIdeal.main_v2_0)) (v1 : (c : Dev Cert.OProjIdeal.nD) → Buf (Elt Ideal) ((c.tc : Thread Cert.OProjIdeal.nD Cert.OProjIdeal.τ).loc Cert.OProjIdeal.main_v2_1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v2_0) = v0 c
          ∧ r.2.mem ((c.tc : Thread Cert.OProjIdeal.nD Cert.OProjIdeal.τ).loc Cert.OProjIdeal.main_v2_1) = v1 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v3_0) = v0 c
          ∧ r.2.mem ((c.tc : Thread Cert.OProjRefIdeal.nD Cert.OProjRefIdeal.τ).loc Cert.OProjRefIdeal.main_v3_1) = v1 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)) →
    ∃ (v0 : (c : Dev Cert.GateUpIdeal.nD) → Buf (Elt Ideal) ((c.tc : Thread Cert.GateUpIdeal.nD Cert.GateUpIdeal.τ).loc Cert.GateUpIdeal.main_v2_0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6))

def Claim : Prop :=
  ∃ (hQkv : Cert.Qkv.Facts) (hQkvIdeal : Cert.QkvIdeal.Facts) (hQkvRefIdeal : Cert.QkvRefIdeal.Facts) (hOProj : Cert.OProj.Facts) (hOProjIdeal : Cert.OProjIdeal.Facts) (hOProjRefIdeal : Cert.OProjRefIdeal.Facts) (hGateUp : Cert.GateUp.Facts) (hGateUpIdeal : Cert.GateUpIdeal.Facts) (hGateUpRefIdeal : Cert.GateUpRefIdeal.Facts),
    quiescent_Qkv (hQkv := hQkv)
    ∧ quiescent_QkvIdeal (hQkvIdeal := hQkvIdeal)
    ∧ quiescent_QkvRefIdeal (hQkvRefIdeal := hQkvRefIdeal)
    ∧ quiescent_OProj (hOProj := hOProj)
    ∧ quiescent_OProjIdeal (hOProjIdeal := hOProjIdeal)
    ∧ quiescent_OProjRefIdeal (hOProjRefIdeal := hOProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ preserves_Qkv_QkvIdeal
    ∧ algebraic_QkvIdeal_QkvRefIdeal (hQkvIdeal := hQkvIdeal) (hQkvRefIdeal := hQkvRefIdeal)
    ∧ preserves_OProj_OProjIdeal
    ∧ algebraic_OProjIdeal_OProjRefIdeal (hOProjIdeal := hOProjIdeal) (hOProjRefIdeal := hOProjRefIdeal)
    ∧ preserves_GateUp_GateUpIdeal
    ∧ algebraic_GateUpIdeal_GateUpRefIdeal (hGateUpIdeal := hGateUpIdeal) (hGateUpRefIdeal := hGateUpRefIdeal)
-- ==== Qkv.lean ====
abbrev S5120x2560 : Shape := ⟨2, ![5120, 2560]⟩
abbrev S5120 : Shape := ⟨1, ![5120]⟩
abbrev S2560 : Shape := ⟨1, ![2560]⟩
abbrev S2560x6144 : Shape := ⟨2, ![2560, 6144]⟩
abbrev S6144 : Shape := ⟨1, ![6144]⟩
abbrev S1 : Shape := ⟨1, ![1]⟩
abbrev S64 : Shape := ⟨1, ![64]⟩
abbrev S_ : Shape := ⟨0, ![]⟩
abbrev S128 : Shape := ⟨1, ![128]⟩
abbrev S1x128 : Shape := ⟨2, ![1, 128]⟩
abbrev S10x1x512 : Shape := ⟨3, ![10, 1, 512]⟩
abbrev S1x2560 : Shape := ⟨2, ![1, 2560]⟩
abbrev S1x6144 : Shape := ⟨2, ![1, 6144]⟩
abbrev S5120x32x128 : Shape := ⟨3, ![5120, 32, 128]⟩
abbrev S5120x8x128 : Shape := ⟨3, ![5120, 8, 128]⟩
abbrev S1x1x512 : Shape := ⟨3, ![1, 1, 512]⟩
abbrev S512x2560 : Shape := ⟨2, ![512, 2560]⟩
abbrev S512x32x128 : Shape := ⟨3, ![512, 32, 128]⟩
abbrev S512x8x128 : Shape := ⟨3, ![512, 8, 128]⟩
abbrev S512x128 : Shape := ⟨2, ![512, 128]⟩
abbrev S128x512 : Shape := ⟨2, ![128, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S2560x512 : Shape := ⟨2, ![2560, 512]⟩
abbrev S512x512 : Shape := ⟨2, ![512, 512]⟩
abbrev S512x16x128 : Shape := ⟨3, ![512, 16, 128]⟩
abbrev S8192x128 : Shape := ⟨2, ![8192, 128]⟩
abbrev S512x2x128 : Shape := ⟨3, ![512, 2, 128]⟩
abbrev S512x1x128 : Shape := ⟨3, ![512, 1, 128]⟩
abbrev S512x4x128 : Shape := ⟨3, ![512, 4, 128]⟩

abbrev nBuf : Space → Nat
  | .hbm => 26
  | .vmem => 17
  | .smem => 2
  | _ => 0

abbrev bufTy : (tb : Table) → Fin (tcTables nBuf tb) → BufTy
  | .hbm, ⟨0, _⟩ => ⟨S5120x2560, .bf16⟩
  | .hbm, ⟨1, _⟩ => ⟨S5120, .i32⟩
  | .hbm, ⟨2, _⟩ => ⟨S2560, .f32⟩
  | .hbm, ⟨3, _⟩ => ⟨S2560x6144, .fp8e4m3⟩
  | .hbm, ⟨4, _⟩ => ⟨S6144, .f32⟩
  | .hbm, ⟨5, _⟩ => ⟨S1, .f32⟩
  | .hbm, ⟨6, _⟩ => ⟨S1, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S128, .f32⟩
  | .hbm, ⟨19, _⟩ => ⟨S1x128, .f32⟩
  | .hbm, ⟨20, _⟩ => ⟨S10x1x512, .i32⟩
  | .hbm, ⟨21, _⟩ => ⟨S1x2560, .f32⟩
  | .hbm, ⟨22, _⟩ => ⟨S1x6144, .f32⟩
  | .hbm, ⟨23, _⟩ => ⟨S5120x32x128, .bf16⟩
  | .hbm, ⟨24, _⟩ => ⟨S5120x8x128, .fp8e4m3⟩
  | .hbm, ⟨25, _⟩ => ⟨S5120x8x128, .fp8e4m3⟩
  | .local _ .vmem, ⟨0, _⟩ => ⟨S1x1x512, .i32⟩
  | .local _ .vmem, ⟨1, _⟩ => ⟨S1x1x512, .i32⟩
  | .local _ .vmem, ⟨2, _⟩ => ⟨S1x128, .f32⟩
  | .local _ .vmem, ⟨3, _⟩ => ⟨S512x2560, .bf16⟩
  | .local _ .vmem, ⟨4, _⟩ => ⟨S512x2560, .bf16⟩
  | .local _ .vmem, ⟨5, _⟩ => ⟨S1x2560, .f32⟩
  | .local _ .vmem, ⟨6, _⟩ => ⟨S2560x6144, .fp8e4m3⟩
  | .local _ .vmem, ⟨7, _⟩ => ⟨S1x6144, .f32⟩
  | .local _ .vmem, ⟨8, _⟩ => ⟨S512x32x128, .bf16⟩
  | .local _ .vmem, ⟨9, _⟩ => ⟨S512x32x128, .bf16⟩
  | .local _ .vmem, ⟨10, _⟩ => ⟨S512x8x128, .fp8e4m3⟩
  | .local _ .vmem, ⟨11, _⟩ => ⟨S512x8x128, .fp8e4m3⟩
  | .local _ .vmem, ⟨12, _⟩ => ⟨S512x8x128, .fp8e4m3⟩
  | .local _ .vmem, ⟨13, _⟩ => ⟨S512x8x128, .fp8e4m3⟩
  | .local _ .vmem, ⟨14, _⟩ => ⟨S512x2560, .bf16⟩
  | .local _ .vmem, ⟨15, _⟩ => ⟨S512x128, .f32⟩
  | .local _ .vmem, ⟨16, _⟩ => ⟨S512x128, .f32⟩
  | .local _ .smem, ⟨0, _⟩ => ⟨S1, .f32⟩
  | .local _ .smem, ⟨1, _⟩ => ⟨S1, .f32⟩
  | _, _ => ⟨S5120x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [BitOps F]

abbrev grid0 : Pipeline.Grid := ⟨1, ![10], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2560x6144 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x32x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvIdeal.lean ====
variable {F : FTy → Type} [FloatOps F] [Named F]
def κ : String → Option EReal := fun
  | "inv_n" => some ((1 / 2560 : ℝ) : EReal)
  | _ => none
-- ==== QkvRefIdeal.lean ====
abbrev S5120x2560 : Shape := ⟨2, ![5120, 2560]⟩
abbrev S5120 : Shape := ⟨1, ![5120]⟩
abbrev S2560 : Shape := ⟨1, ![2560]⟩
abbrev S2560x6144 : Shape := ⟨2, ![2560, 6144]⟩
abbrev S6144 : Shape := ⟨1, ![6144]⟩
abbrev S1 : Shape := ⟨1, ![1]⟩
abbrev S64 : Shape := ⟨1, ![64]⟩
abbrev S_ : Shape := ⟨0, ![]⟩
abbrev S5120x1 : Shape := ⟨2, ![5120, 1]⟩
abbrev S1x64 : Shape := ⟨2, ![1, 64]⟩
abbrev S1x2560 : Shape := ⟨2, ![1, 2560]⟩
abbrev S1x6144 : Shape := ⟨2, ![1, 6144]⟩
abbrev S5120x32x128 : Shape := ⟨3, ![5120, 32, 128]⟩
abbrev S5120x8x128 : Shape := ⟨3, ![5120, 8, 128]⟩
abbrev S5120x6144 : Shape := ⟨2, ![5120, 6144]⟩
abbrev S5120x4096 : Shape := ⟨2, ![5120, 4096]⟩
abbrev S5120x1024 : Shape := ⟨2, ![5120, 1024]⟩
abbrev S5120x64 : Shape := ⟨2, ![5120, 64]⟩
abbrev S5120x128 : Shape := ⟨2, ![5120, 128]⟩
abbrev S5120x1x128 : Shape := ⟨3, ![5120, 1, 128]⟩
abbrev S5120x32x64 : Shape := ⟨3, ![5120, 32, 64]⟩
abbrev S5120x8x64 : Shape := ⟨3, ![5120, 8, 64]⟩

abbrev nBuf : Space → Nat
  | .hbm => 25
  | .vmem => 9
  | .smem => 2
  | _ => 0

abbrev bufTy : (tb : Table) → Fin (tcTables nBuf tb) → BufTy
  | .hbm, ⟨0, _⟩ => ⟨S5120x2560, .bf16⟩
  | .hbm, ⟨1, _⟩ => ⟨S5120, .i32⟩
  | .hbm, ⟨2, _⟩ => ⟨S2560, .f32⟩
  | .hbm, ⟨3, _⟩ => ⟨S2560x6144, .fp8e4m3⟩
  | .hbm, ⟨4, _⟩ => ⟨S6144, .f32⟩
  | .hbm, ⟨5, _⟩ => ⟨S1, .f32⟩
  | .hbm, ⟨6, _⟩ => ⟨S1, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S5120x1, .i32⟩
  | .hbm, ⟨19, _⟩ => ⟨S1x64, .f32⟩
  | .hbm, ⟨20, _⟩ => ⟨S1x2560, .f32⟩
  | .hbm, ⟨21, _⟩ => ⟨S1x6144, .f32⟩
  | .hbm, ⟨22, _⟩ => ⟨S5120x32x128, .bf16⟩
  | .hbm, ⟨23, _⟩ => ⟨S5120x8x128, .fp8e4m3⟩
  | .hbm, ⟨24, _⟩ => ⟨S5120x8x128, .fp8e4m3⟩
  | .local _ .vmem, ⟨0, _⟩ => ⟨S5120x1, .i32⟩
  | .local _ .vmem, ⟨1, _⟩ => ⟨S1x64, .f32⟩
  | .local _ .vmem, ⟨2, _⟩ => ⟨S5120x2560, .bf16⟩
  | .local _ .vmem, ⟨3, _⟩ => ⟨S1x2560, .f32⟩
  | .local _ .vmem, ⟨4, _⟩ => ⟨S2560x6144, .fp8e4m3⟩
  | .local _ .vmem, ⟨5, _⟩ => ⟨S1x6144, .f32⟩
  | .local _ .vmem, ⟨6, _⟩ => ⟨S5120x32x128, .bf16⟩
  | .local _ .vmem, ⟨7, _⟩ => ⟨S5120x8x128, .fp8e4m3⟩
  | .local _ .vmem, ⟨8, _⟩ => ⟨S5120x8x128, .fp8e4m3⟩
  | .local _ .smem, ⟨0, _⟩ => ⟨S1, .f32⟩
  | .local _ .smem, ⟨1, _⟩ => ⟨S1, .f32⟩
  | _, _ => ⟨S5120x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg6_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S5120x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x32x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5120x8x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120x8x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== OProj.lean ====
abbrev S5120x32x128 : Shape := ⟨3, ![5120, 32, 128]⟩
abbrev S5120x2560 : Shape := ⟨2, ![5120, 2560]⟩
abbrev S4096x2560 : Shape := ⟨2, ![4096, 2560]⟩
abbrev S2560 : Shape := ⟨1, ![2560]⟩
abbrev S1x2560 : Shape := ⟨2, ![1, 2560]⟩
abbrev S512x32x128 : Shape := ⟨3, ![512, 32, 128]⟩
abbrev S512x2560 : Shape := ⟨2, ![512, 2560]⟩
abbrev S512x4096 : Shape := ⟨2, ![512, 4096]⟩
abbrev S512x16x128 : Shape := ⟨3, ![512, 16, 128]⟩
abbrev S8192x128 : Shape := ⟨2, ![8192, 128]⟩
abbrev S512x128 : Shape := ⟨2, ![512, 128]⟩
abbrev S512x2x128 : Shape := ⟨3, ![512, 2, 128]⟩
abbrev S512x1x128 : Shape := ⟨3, ![512, 1, 128]⟩
abbrev S4096x512 : Shape := ⟨2, ![4096, 512]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S5120x32x128, .bf16⟩
  | .hbm, ⟨1, _⟩ => ⟨S5120x2560, .bf16⟩
  | .hbm, ⟨2, _⟩ => ⟨S4096x2560, .fp8e4m3⟩
  | .hbm, ⟨3, _⟩ => ⟨S2560, .f32⟩
  | .hbm, ⟨4, _⟩ => ⟨S2560, .f32⟩
  | .hbm, ⟨5, _⟩ => ⟨S1x2560, .f32⟩
  | .hbm, ⟨6, _⟩ => ⟨S1x2560, .f32⟩
  | .hbm, ⟨7, _⟩ => ⟨S5120x2560, .bf16⟩
  | .hbm, ⟨8, _⟩ => ⟨S5120x2560, .bf16⟩
  | .local _ .vmem, ⟨0, _⟩ => ⟨S512x32x128, .bf16⟩
  | .local _ .vmem, ⟨1, _⟩ => ⟨S512x32x128, .bf16⟩
  | .local _ .vmem, ⟨2, _⟩ => ⟨S512x2560, .bf16⟩
  | .local _ .vmem, ⟨3, _⟩ => ⟨S512x2560, .bf16⟩
  | .local _ .vmem, ⟨4, _⟩ => ⟨S4096x2560, .fp8e4m3⟩
  | .local _ .vmem, ⟨5, _⟩ => ⟨S1x2560, .f32⟩
  | .local _ .vmem, ⟨6, _⟩ => ⟨S1x2560, .f32⟩
  | .local _ .vmem, ⟨7, _⟩ => ⟨S512x2560, .bf16⟩
  | .local _ .vmem, ⟨8, _⟩ => ⟨S512x2560, .bf16⟩
  | .local _ .vmem, ⟨9, _⟩ => ⟨S512x2560, .bf16⟩
  | .local _ .vmem, ⟨10, _⟩ => ⟨S512x2560, .bf16⟩
  | .local _ .vmem, ⟨11, _⟩ => ⟨S512x4096, .bf16⟩
  | _, _ => ⟨S5120x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OProjIdeal.lean ====
variable {F : FTy → Type} [FloatOps F] [Named F]
def κ : String → Option EReal := fun
  | "inv_n" => some ((1 / 2560 : ℝ) : EReal)
  | _ => none
-- ==== OProjRefIdeal.lean ====
abbrev S5120x32x128 : Shape := ⟨3, ![5120, 32, 128]⟩
abbrev S5120x2560 : Shape := ⟨2, ![5120, 2560]⟩
abbrev S4096x2560 : Shape := ⟨2, ![4096, 2560]⟩
abbrev S2560 : Shape := ⟨1, ![2560]⟩
abbrev S5120x4096 : Shape := ⟨2, ![5120, 4096]⟩
abbrev S1x2560 : Shape := ⟨2, ![1, 2560]⟩
abbrev S5120 : Shape := ⟨1, ![5120]⟩
abbrev S5120x1 : Shape := ⟨2, ![5120, 1]⟩

abbrev nBuf : Space → Nat
  | .hbm => 10
  | .vmem => 7
  | .smem => 0
  | _ => 0

abbrev bufTy : (tb : Table) → Fin (tcTables nBuf tb) → BufTy
  | .hbm, ⟨0, _⟩ => ⟨S5120x32x128, .bf16⟩
  | .hbm, ⟨1, _⟩ => ⟨S5120x2560, .bf16⟩
  | .hbm, ⟨2, _⟩ => ⟨S4096x2560, .fp8e4m3⟩
  | .hbm, ⟨3, _⟩ => ⟨S2560, .f32⟩
  | .hbm, ⟨4, _⟩ => ⟨S2560, .f32⟩
  | .hbm, ⟨5, _⟩ => ⟨S5120x4096, .bf16⟩
  | .hbm, ⟨6, _⟩ => ⟨S1x2560, .f32⟩
  | .hbm, ⟨7, _⟩ => ⟨S1x2560, .f32⟩
  | .hbm, ⟨8, _⟩ => ⟨S5120x2560, .bf16⟩
  | .hbm, ⟨9, _⟩ => ⟨S5120x2560, .bf16⟩
  | .local _ .vmem, ⟨0, _⟩ => ⟨S5120x4096, .bf16⟩
  | .local _ .vmem, ⟨1, _⟩ => ⟨S5120x2560, .bf16⟩
  | .local _ .vmem, ⟨2, _⟩ => ⟨S4096x2560, .fp8e4m3⟩
  | .local _ .vmem, ⟨3, _⟩ => ⟨S1x2560, .f32⟩
  | .local _ .vmem, ⟨4, _⟩ => ⟨S1x2560, .f32⟩
  | .local _ .vmem, ⟨5, _⟩ => ⟨S5120x2560, .bf16⟩
  | .local _ .vmem, ⟨6, _⟩ => ⟨S5120x2560, .bf16⟩
  | _, _ => ⟨S5120x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5120x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== GateUp.lean ====
abbrev S5120x2560 : Shape := ⟨2, ![5120, 2560]⟩
abbrev S2560x9728 : Shape := ⟨2, ![2560, 9728]⟩
abbrev S9728 : Shape := ⟨1, ![9728]⟩
abbrev S132000x8x128 : Shape := ⟨3, ![132000, 8, 128]⟩
abbrev S1x9728 : Shape := ⟨2, ![1, 9728]⟩
abbrev S5120x9728 : Shape := ⟨2, ![5120, 9728]⟩
abbrev S2560x2560 : Shape := ⟨2, ![2560, 2560]⟩
abbrev S2560x512 : Shape := ⟨2, ![2560, 512]⟩
abbrev S1x512 : Shape := ⟨2, ![1, 512]⟩
abbrev S2x2x3488x8x128 : Shape := ⟨5, ![2, 2, 3488, 8, 128]⟩
abbrev S2x2 : Shape := ⟨2, ![2, 2]⟩
abbrev S1x1 : Shape := ⟨2, ![1, 1]⟩
abbrev S_ : Shape := ⟨0, ![]⟩
abbrev S1x1x3488x8x128 : Shape := ⟨5, ![1, 1, 3488, 8, 128]⟩
abbrev S3488x8x128 : Shape := ⟨3, ![3488, 8, 128]⟩
abbrev S512x2560 : Shape := ⟨2, ![512, 2560]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S5120x2560, .bf16⟩
  | .hbm, ⟨1, _⟩ => ⟨S2560x9728, .fp8e4m3⟩
  | .hbm, ⟨2, _⟩ => ⟨S9728, .f32⟩
  | .hbm, ⟨3, _⟩ => ⟨S2560x9728, .fp8e4m3⟩
  | .hbm, ⟨4, _⟩ => ⟨S9728, .f32⟩
  | .hbm, ⟨5, _⟩ => ⟨S132000x8x128, .fp8e4m3⟩
  | .hbm, ⟨6, _⟩ => ⟨S132000x8x128, .fp8e4m3⟩
  | .hbm, ⟨7, _⟩ => ⟨S1x9728, .f32⟩
  | .hbm, ⟨8, _⟩ => ⟨S1x9728, .f32⟩
  | .hbm, ⟨9, _⟩ => ⟨S5120x9728, .bf16⟩
  | .hbm, ⟨10, _⟩ => ⟨S132000x8x128, .fp8e4m3⟩
  | .hbm, ⟨11, _⟩ => ⟨S132000x8x128, .fp8e4m3⟩
  | .local _ .vmem, ⟨0, _⟩ => ⟨S2560x2560, .bf16⟩
  | .local _ .vmem, ⟨1, _⟩ => ⟨S2560x2560, .bf16⟩
  | .local _ .vmem, ⟨2, _⟩ => ⟨S2560x512, .fp8e4m3⟩
  | .local _ .vmem, ⟨3, _⟩ => ⟨S2560x512, .fp8e4m3⟩
  | .local _ .vmem, ⟨4, _⟩ => ⟨S2560x512, .fp8e4m3⟩
  | .local _ .vmem, ⟨5, _⟩ => ⟨S2560x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2560x512, .bf16⟩
  | .local _ .vmem, ⟨11, _⟩ => ⟨S2560x512, .bf16⟩
  | .local _ .vmem, ⟨12, _⟩ => ⟨S2x2x3488x8x128, .fp8e4m3⟩
  | _, _ => ⟨S5120x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 19], ![false, false]⟩

def k0_cond1 (i : grid0.Coords) : BitVec 1 :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32_139 : BitVec 32 := 2#32
  let c0_i32_140 : BitVec 32 := 0#32
  let v182 : BitVec 1 := Scalar.cmpi .eq c2_i32_139 c0_i32_140
  let c1_i32_141 : BitVec 32 := 1#32
  let v183 : BitVec 32 := Scalar.select v182 c1_i32_141 c2_i32_139
  let v184 : BitVec 32 := Scalar.remsi v1 v183
  let c0_i32_143 : BitVec 32 := 0#32
  let v186 : BitVec 1 := Scalar.cmpi .slt v184 c0_i32_143
  let c0_i32_144 : BitVec 32 := 0#32
  let v187 : BitVec 1 := Scalar.cmpi .slt v183 c0_i32_144
  let v188 : BitVec 1 := Scalar.xori v186 v187
  let c0_i32_142 : BitVec 32 := 0#32
  let v185 : BitVec 1 := Scalar.cmpi .ne v184 c0_i32_142
  let v189 : BitVec 1 := Scalar.andi v188 v185
  let v190 : BitVec 32 := Scalar.addi v184 v183
  let v191 : BitVec 32 := Scalar.select v189 v190 v184
  let c0_i32_149 : BitVec 32 := 0#32
  ![v191.toNat, 0]
def k0_off2 (i : grid0.Coords) : Fin 5 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32_139 : BitVec 32 := 2#32
  let c0_i32_140 : BitVec 32 := 0#32
  let v182 : BitVec 1 := Scalar.cmpi .eq c2_i32_139 c0_i32_140
  let c1_i32_141 : BitVec 32 := 1#32
  let v183 : BitVec 32 := Scalar.select v182 c1_i32_141 c2_i32_139
  let v184 : BitVec 32 := Scalar.remsi v1 v183
  let c0_i32_143 : BitVec 32 := 0#32
  let v186 : BitVec 1 := Scalar.cmpi .slt v184 c0_i32_143
  let c0_i32_144 : BitVec 32 := 0#32
  let v187 : BitVec 1 := Scalar.cmpi .slt v183 c0_i32_144
  let v188 : BitVec 1 := Scalar.xori v186 v187
  let c0_i32_142 : BitVec 32 := 0#32
  let v185 : BitVec 1 := Scalar.cmpi .ne v184 c0_i32_142
  let v189 : BitVec 1 := Scalar.andi v188 v185
  let v190 : BitVec 32 := Scalar.addi v184 v183
  let v191 : BitVec 32 := Scalar.select v189 v190 v184
  let c0_i32_148 : BitVec 32 := 0#32
  let c0_i32_150 : BitVec 32 := 0#32
  let c0_i32_151 : BitVec 32 := 0#32
  let c0_i32_152 : BitVec 32 := 0#32
  ![v191.toNat, 0, 0, 0, 0]
def k0_off3 (i : grid0.Coords) : Fin 3 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c218_i32_145 : BitVec 32 := 218#32
  let v192 : BitVec 32 := Scalar.muli v1 c218_i32_145
  let c8032_i32_146 : BitVec 32 := 8032#32
  let v193 : BitVec 32 := Scalar.minsi v192 c8032_i32_146
  let c16_i32_147 : BitVec 32 := 16#32
  let v194 : BitVec 32 := Scalar.muli v193 c16_i32_147
  let c0_i32_153 : BitVec 32 := 0#32
  let c0_i32_154 : BitVec 32 := 0#32
  ![v194.toNat, 0, 0]
def k0_off4 (i : grid0.Coords) : Fin 2 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32_155 : BitVec 32 := 2#32
  let c0_i32_156 : BitVec 32 := 0#32
  let v200 : BitVec 1 := Scalar.cmpi .eq c2_i32_155 c0_i32_156
  let c1_i32_157 : BitVec 32 := 1#32
  let v201 : BitVec 32 := Scalar.select v200 c1_i32_157 c2_i32_155
  let v202 : BitVec 32 := Scalar.remsi v1 v201
  let c0_i32_159 : BitVec 32 := 0#32
  let v204 : BitVec 1 := Scalar.cmpi .slt v202 c0_i32_159
  let c0_i32_160 : BitVec 32 := 0#32
  let v205 : BitVec 1 := Scalar.cmpi .slt v201 c0_i32_160
  let v206 : BitVec 1 := Scalar.xori v204 v205
  let c0_i32_158 : BitVec 32 := 0#32
  let v203 : BitVec 1 := Scalar.cmpi .ne v202 c0_i32_158
  let v207 : BitVec 1 := Scalar.andi v206 v203
  let v208 : BitVec 32 := Scalar.addi v202 v201
  let v209 : BitVec 32 := Scalar.select v207 v208 v202
  let c1_i32_165 : BitVec 32 := 1#32
  ![v209.toNat, 1]
def k0_off5 (i : grid0.Coords) : Fin 5 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32_155 : BitVec 32 := 2#32
  let c0_i32_156 : BitVec 32 := 0#32
  let v200 : BitVec 1 := Scalar.cmpi .eq c2_i32_155 c0_i32_156
  let c1_i32_157 : BitVec 32 := 1#32
  let v201 : BitVec 32 := Scalar.select v200 c1_i32_157 c2_i32_155
  let v202 : BitVec 32 := Scalar.remsi v1 v201
  let c0_i32_159 : BitVec 32 := 0#32
  let v204 : BitVec 1 := Scalar.cmpi .slt v202 c0_i32_159
  let c0_i32_160 : BitVec 32 := 0#32
  let v205 : BitVec 1 := Scalar.cmpi .slt v201 c0_i32_160
  let v206 : BitVec 1 := Scalar.xori v204 v205
  let c0_i32_158 : BitVec 32 := 0#32
  let v203 : BitVec 1 := Scalar.cmpi .ne v202 c0_i32_158
  let v207 : BitVec 1 := Scalar.andi v206 v203
  let v208 : BitVec 32 := Scalar.addi v202 v201
  let v209 : BitVec 32 := Scalar.select v207 v208 v202
  let c1_i32_164 : BitVec 32 := 1#32
  let c0_i32_166 : BitVec 32 := 0#32
  let c0_i32_167 : BitVec 32 := 0#32
  let c0_i32_168 : BitVec 32 := 0#32
  ![v209.toNat, 1, 0, 0, 0]
def k0_off6 (i : grid0.Coords) : Fin 2 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32 : BitVec 32 := 2#32
  let c0_i32_1 : BitVec 32 := 0#32
  let v5 : BitVec 1 := Scalar.cmpi .eq c2_i32 c0_i32_1
  let c1_i32 : BitVec 32 := 1#32
  let v6 : BitVec 32 := Scalar.select v5 c1_i32 c2_i32
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_6 : BitVec 32 := 0#32
  ![v14.toNat, 0]
def k0_off7 (i : grid0.Coords) : Fin 5 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32 : BitVec 32 := 2#32
  let c0_i32_1 : BitVec 32 := 0#32
  let v5 : BitVec 1 := Scalar.cmpi .eq c2_i32 c0_i32_1
  let c1_i32 : BitVec 32 := 1#32
  let v6 : BitVec 32 := Scalar.select v5 c1_i32 c2_i32
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_5 : BitVec 32 := 0#32
  let c0_i32_7 : BitVec 32 := 0#32
  let c0_i32_8 : BitVec 32 := 0#32
  let c0_i32_9 : BitVec 32 := 0#32
  ![v14.toNat, 0, 0, 0, 0]
def k0_off8 (i : grid0.Coords) : Fin 3 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c218_i32 : BitVec 32 := 218#32
  let v15 : BitVec 32 := Scalar.muli v1 c218_i32
  let c8032_i32 : BitVec 32 := 8032#32
  let v16 : BitVec 32 := Scalar.minsi v15 c8032_i32
  let c16_i32 : BitVec 32 := 16#32
  let v17 : BitVec 32 := Scalar.muli v16 c16_i32
  let c0_i32_10 : BitVec 32 := 0#32
  let c0_i32_11 : BitVec 32 := 0#32
  ![v17.toNat, 0, 0]
def k0_off9 (i : grid0.Coords) : Fin 2 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32_12 : BitVec 32 := 2#32
  let c0_i32_13 : BitVec 32 := 0#32
  let v23 : BitVec 1 := Scalar.cmpi .eq c2_i32_12 c0_i32_13
  let c1_i32_14 : BitVec 32 := 1#32
  let v24 : BitVec 32 := Scalar.select v23 c1_i32_14 c2_i32_12
  let v25 : BitVec 32 := Scalar.remsi v1 v24
  let c0_i32_16 : BitVec 32 := 0#32
  let v27 : BitVec 1 := Scalar.cmpi .slt v25 c0_i32_16
  let c0_i32_17 : BitVec 32 := 0#32
  let v28 : BitVec 1 := Scalar.cmpi .slt v24 c0_i32_17
  let v29 : BitVec 1 := Scalar.xori v27 v28
  let c0_i32_15 : BitVec 32 := 0#32
  let v26 : BitVec 1 := Scalar.cmpi .ne v25 c0_i32_15
  let v30 : BitVec 1 := Scalar.andi v29 v26
  let v31 : BitVec 32 := Scalar.addi v25 v24
  let v32 : BitVec 32 := Scalar.select v30 v31 v25
  let c1_i32_22 : BitVec 32 := 1#32
  ![v32.toNat, 1]
def k0_off10 (i : grid0.Coords) : Fin 5 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32_12 : BitVec 32 := 2#32
  let c0_i32_13 : BitVec 32 := 0#32
  let v23 : BitVec 1 := Scalar.cmpi .eq c2_i32_12 c0_i32_13
  let c1_i32_14 : BitVec 32 := 1#32
  let v24 : BitVec 32 := Scalar.select v23 c1_i32_14 c2_i32_12
  let v25 : BitVec 32 := Scalar.remsi v1 v24
  let c0_i32_16 : BitVec 32 := 0#32
  let v27 : BitVec 1 := Scalar.cmpi .slt v25 c0_i32_16
  let c0_i32_17 : BitVec 32 := 0#32
  let v28 : BitVec 1 := Scalar.cmpi .slt v24 c0_i32_17
  let v29 : BitVec 1 := Scalar.xori v27 v28
  let c0_i32_15 : BitVec 32 := 0#32
  let v26 : BitVec 1 := Scalar.cmpi .ne v25 c0_i32_15
  let v30 : BitVec 1 := Scalar.andi v29 v26
  let v31 : BitVec 32 := Scalar.addi v25 v24
  let v32 : BitVec 32 := Scalar.select v30 v31 v25
  let c1_i32_21 : BitVec 32 := 1#32
  let c0_i32_23 : BitVec 32 := 0#32
  let c0_i32_24 : BitVec 32 := 0#32
  let c0_i32_25 : BitVec 32 := 0#32
  ![v32.toNat, 1, 0, 0, 0]
def k0_cond2 (i : grid0.Coords) : BitVec 1 :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c0_i32_28 : BitVec 32 := 0#32
  let v41 : BitVec 1 := Scalar.cmpi .sgt v1 c0_i32_28
  let v42 : BitVec 32 := Scalar.extui v41
  let c0_i32_29 : BitVec 32 := 0#32
  let v43 : BitVec 1 := Scalar.cmpi .ne v42 c0_i32_29
  v43

def k0_off11 (i : grid0.Coords) : Fin 2 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_139 : BitVec 32 := 1#32
  let v182 : BitVec 32 := Scalar.subi v1 c1_i32_139
  let c2_i32_140 : BitVec 32 := 2#32
  let c0_i32_141 : BitVec 32 := 0#32
  let v183 : BitVec 1 := Scalar.cmpi .eq c2_i32_140 c0_i32_141
  let c1_i32_142 : BitVec 32 := 1#32
  let v184 : BitVec 32 := Scalar.select v183 c1_i32_142 c2_i32_140
  let v185 : BitVec 32 := Scalar.remsi v182 v184
  let c0_i32_144 : BitVec 32 := 0#32
  let v187 : BitVec 1 := Scalar.cmpi .slt v185 c0_i32_144
  let c0_i32_145 : BitVec 32 := 0#32
  let v188 : BitVec 1 := Scalar.cmpi .slt v184 c0_i32_145
  let v189 : BitVec 1 := Scalar.xori v187 v188
  let c0_i32_143 : BitVec 32 := 0#32
  let v186 : BitVec 1 := Scalar.cmpi .ne v185 c0_i32_143
  let v190 : BitVec 1 := Scalar.andi v189 v186
  let v191 : BitVec 32 := Scalar.addi v185 v184
  let v192 : BitVec 32 := Scalar.select v190 v191 v185
  let c0_i32_150 : BitVec 32 := 0#32
  ![v192.toNat, 0]
def k0_off12 (i : grid0.Coords) : Fin 3 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_139 : BitVec 32 := 1#32
  let v182 : BitVec 32 := Scalar.subi v1 c1_i32_139
  let c218_i32_146 : BitVec 32 := 218#32
  let v193 : BitVec 32 := Scalar.muli v182 c218_i32_146
  let c8032_i32_147 : BitVec 32 := 8032#32
  let v194 : BitVec 32 := Scalar.minsi v193 c8032_i32_147
  let c16_i32_148 : BitVec 32 := 16#32
  let v195 : BitVec 32 := Scalar.muli v194 c16_i32_148
  let c0_i32_151 : BitVec 32 := 0#32
  let c0_i32_152 : BitVec 32 := 0#32
  ![v195.toNat, 0, 0]
def k0_off13 (i : grid0.Coords) : Fin 5 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_139 : BitVec 32 := 1#32
  let v182 : BitVec 32 := Scalar.subi v1 c1_i32_139
  let c2_i32_140 : BitVec 32 := 2#32
  let c0_i32_141 : BitVec 32 := 0#32
  let v183 : BitVec 1 := Scalar.cmpi .eq c2_i32_140 c0_i32_141
  let c1_i32_142 : BitVec 32 := 1#32
  let v184 : BitVec 32 := Scalar.select v183 c1_i32_142 c2_i32_140
  let v185 : BitVec 32 := Scalar.remsi v182 v184
  let c0_i32_144 : BitVec 32 := 0#32
  let v187 : BitVec 1 := Scalar.cmpi .slt v185 c0_i32_144
  let c0_i32_145 : BitVec 32 := 0#32
  let v188 : BitVec 1 := Scalar.cmpi .slt v184 c0_i32_145
  let v189 : BitVec 1 := Scalar.xori v187 v188
  let c0_i32_143 : BitVec 32 := 0#32
  let v186 : BitVec 1 := Scalar.cmpi .ne v185 c0_i32_143
  let v190 : BitVec 1 := Scalar.andi v189 v186
  let v191 : BitVec 32 := Scalar.addi v185 v184
  let v192 : BitVec 32 := Scalar.select v190 v191 v185
  let c0_i32_149 : BitVec 32 := 0#32
  let c0_i32_153 : BitVec 32 := 0#32
  let c0_i32_154 : BitVec 32 := 0#32
  let c0_i32_155 : BitVec 32 := 0#32
  ![v192.toNat, 0, 0, 0, 0]
def k0_off14 (i : grid0.Coords) : Fin 2 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_156 : BitVec 32 := 1#32
  let v201 : BitVec 32 := Scalar.subi v1 c1_i32_156
  let c2_i32_157 : BitVec 32 := 2#32
  let c0_i32_158 : BitVec 32 := 0#32
  let v202 : BitVec 1 := Scalar.cmpi .eq c2_i32_157 c0_i32_158
  let c1_i32_159 : BitVec 32 := 1#32
  let v203 : BitVec 32 := Scalar.select v202 c1_i32_159 c2_i32_157
  let v204 : BitVec 32 := Scalar.remsi v201 v203
  let c0_i32_161 : BitVec 32 := 0#32
  let v206 : BitVec 1 := Scalar.cmpi .slt v204 c0_i32_161
  let c0_i32_162 : BitVec 32 := 0#32
  let v207 : BitVec 1 := Scalar.cmpi .slt v203 c0_i32_162
  let v208 : BitVec 1 := Scalar.xori v206 v207
  let c0_i32_160 : BitVec 32 := 0#32
  let v205 : BitVec 1 := Scalar.cmpi .ne v204 c0_i32_160
  let v209 : BitVec 1 := Scalar.andi v208 v205
  let v210 : BitVec 32 := Scalar.addi v204 v203
  let v211 : BitVec 32 := Scalar.select v209 v210 v204
  let c1_i32_167 : BitVec 32 := 1#32
  ![v211.toNat, 1]
def k0_off15 (i : grid0.Coords) : Fin 5 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_156 : BitVec 32 := 1#32
  let v201 : BitVec 32 := Scalar.subi v1 c1_i32_156
  let c2_i32_157 : BitVec 32 := 2#32
  let c0_i32_158 : BitVec 32 := 0#32
  let v202 : BitVec 1 := Scalar.cmpi .eq c2_i32_157 c0_i32_158
  let c1_i32_159 : BitVec 32 := 1#32
  let v203 : BitVec 32 := Scalar.select v202 c1_i32_159 c2_i32_157
  let v204 : BitVec 32 := Scalar.remsi v201 v203
  let c0_i32_161 : BitVec 32 := 0#32
  let v206 : BitVec 1 := Scalar.cmpi .slt v204 c0_i32_161
  let c0_i32_162 : BitVec 32 := 0#32
  let v207 : BitVec 1 := Scalar.cmpi .slt v203 c0_i32_162
  let v208 : BitVec 1 := Scalar.xori v206 v207
  let c0_i32_160 : BitVec 32 := 0#32
  let v205 : BitVec 1 := Scalar.cmpi .ne v204 c0_i32_160
  let v209 : BitVec 1 := Scalar.andi v208 v205
  let v210 : BitVec 32 := Scalar.addi v204 v203
  let v211 : BitVec 32 := Scalar.select v209 v210 v204
  let c1_i32_166 : BitVec 32 := 1#32
  let c0_i32_170 : BitVec 32 := 0#32
  let c0_i32_171 : BitVec 32 := 0#32
  let c0_i32_172 : BitVec 32 := 0#32
  ![v211.toNat, 1, 0, 0, 0]
def k0_cond3 (i : grid0.Coords) : BitVec 1 :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_62 : BitVec 32 := 1#32
  let v80 : BitVec 32 := Scalar.addi v1 c1_i32_62
  let c38_i32 : BitVec 32 := 38#32
  let v81 : BitVec 1 := Scalar.cmpi .slt v80 c38_i32
  let v82 : BitVec 32 := Scalar.extui v81
  let c0_i32_63 : BitVec 32 := 0#32
  let v83 : BitVec 1 := Scalar.cmpi .ne v82 c0_i32_63
  v83

def k0_off16 (i : grid0.Coords) : Fin 2 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_139 : BitVec 32 := 1#32
  let v182 : BitVec 32 := Scalar.addi v1 c1_i32_139
  let c2_i32_140 : BitVec 32 := 2#32
  let c0_i32_141 : BitVec 32 := 0#32
  let v183 : BitVec 1 := Scalar.cmpi .eq c2_i32_140 c0_i32_141
  let c1_i32_142 : BitVec 32 := 1#32
  let v184 : BitVec 32 := Scalar.select v183 c1_i32_142 c2_i32_140
  let v185 : BitVec 32 := Scalar.remsi v182 v184
  let c0_i32_144 : BitVec 32 := 0#32
  let v187 : BitVec 1 := Scalar.cmpi .slt v185 c0_i32_144
  let c0_i32_145 : BitVec 32 := 0#32
  let v188 : BitVec 1 := Scalar.cmpi .slt v184 c0_i32_145
  let v189 : BitVec 1 := Scalar.xori v187 v188
  let c0_i32_143 : BitVec 32 := 0#32
  let v186 : BitVec 1 := Scalar.cmpi .ne v185 c0_i32_143
  let v190 : BitVec 1 := Scalar.andi v189 v186
  let v191 : BitVec 32 := Scalar.addi v185 v184
  let v192 : BitVec 32 := Scalar.select v190 v191 v185
  let c0_i32_150 : BitVec 32 := 0#32
  ![v192.toNat, 0]
def k0_off17 (i : grid0.Coords) : Fin 5 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_139 : BitVec 32 := 1#32
  let v182 : BitVec 32 := Scalar.addi v1 c1_i32_139
  let c2_i32_140 : BitVec 32 := 2#32
  let c0_i32_141 : BitVec 32 := 0#32
  let v183 : BitVec 1 := Scalar.cmpi .eq c2_i32_140 c0_i32_141
  let c1_i32_142 : BitVec 32 := 1#32
  let v184 : BitVec 32 := Scalar.select v183 c1_i32_142 c2_i32_140
  let v185 : BitVec 32 := Scalar.remsi v182 v184
  let c0_i32_144 : BitVec 32 := 0#32
  let v187 : BitVec 1 := Scalar.cmpi .slt v185 c0_i32_144
  let c0_i32_145 : BitVec 32 := 0#32
  let v188 : BitVec 1 := Scalar.cmpi .slt v184 c0_i32_145
  let v189 : BitVec 1 := Scalar.xori v187 v188
  let c0_i32_143 : BitVec 32 := 0#32
  let v186 : BitVec 1 := Scalar.cmpi .ne v185 c0_i32_143
  let v190 : BitVec 1 := Scalar.andi v189 v186
  let v191 : BitVec 32 := Scalar.addi v185 v184
  let v192 : BitVec 32 := Scalar.select v190 v191 v185
  let c0_i32_149 : BitVec 32 := 0#32
  let c0_i32_151 : BitVec 32 := 0#32
  let c0_i32_152 : BitVec 32 := 0#32
  let c0_i32_153 : BitVec 32 := 0#32
  ![v192.toNat, 0, 0, 0, 0]
def k0_off18 (i : grid0.Coords) : Fin 3 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_139 : BitVec 32 := 1#32
  let v182 : BitVec 32 := Scalar.addi v1 c1_i32_139
  let c218_i32_146 : BitVec 32 := 218#32
  let v193 : BitVec 32 := Scalar.muli v182 c218_i32_146
  let c8032_i32_147 : BitVec 32 := 8032#32
  let v194 : BitVec 32 := Scalar.minsi v193 c8032_i32_147
  let c16_i32_148 : BitVec 32 := 16#32
  let v195 : BitVec 32 := Scalar.muli v194 c16_i32_148
  let c0_i32_154 : BitVec 32 := 0#32
  let c0_i32_155 : BitVec 32 := 0#32
  ![v195.toNat, 0, 0]
def k0_off19 (i : grid0.Coords) : Fin 2 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_156 : BitVec 32 := 1#32
  let v201 : BitVec 32 := Scalar.addi v1 c1_i32_156
  let c2_i32_157 : BitVec 32 := 2#32
  let c0_i32_158 : BitVec 32 := 0#32
  let v202 : BitVec 1 := Scalar.cmpi .eq c2_i32_157 c0_i32_158
  let c1_i32_159 : BitVec 32 := 1#32
  let v203 : BitVec 32 := Scalar.select v202 c1_i32_159 c2_i32_157
  let v204 : BitVec 32 := Scalar.remsi v201 v203
  let c0_i32_161 : BitVec 32 := 0#32
  let v206 : BitVec 1 := Scalar.cmpi .slt v204 c0_i32_161
  let c0_i32_162 : BitVec 32 := 0#32
  let v207 : BitVec 1 := Scalar.cmpi .slt v203 c0_i32_162
  let v208 : BitVec 1 := Scalar.xori v206 v207
  let c0_i32_160 : BitVec 32 := 0#32
  let v205 : BitVec 1 := Scalar.cmpi .ne v204 c0_i32_160
  let v209 : BitVec 1 := Scalar.andi v208 v205
  let v210 : BitVec 32 := Scalar.addi v204 v203
  let v211 : BitVec 32 := Scalar.select v209 v210 v204
  let c1_i32_167 : BitVec 32 := 1#32
  ![v211.toNat, 1]
def k0_off20 (i : grid0.Coords) : Fin 5 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c1_i32_156 : BitVec 32 := 1#32
  let v201 : BitVec 32 := Scalar.addi v1 c1_i32_156
  let c2_i32_157 : BitVec 32 := 2#32
  let c0_i32_158 : BitVec 32 := 0#32
  let v202 : BitVec 1 := Scalar.cmpi .eq c2_i32_157 c0_i32_158
  let c1_i32_159 : BitVec 32 := 1#32
  let v203 : BitVec 32 := Scalar.select v202 c1_i32_159 c2_i32_157
  let v204 : BitVec 32 := Scalar.remsi v201 v203
  let c0_i32_161 : BitVec 32 := 0#32
  let v206 : BitVec 1 := Scalar.cmpi .slt v204 c0_i32_161
  let c0_i32_162 : BitVec 32 := 0#32
  let v207 : BitVec 1 := Scalar.cmpi .slt v203 c0_i32_162
  let v208 : BitVec 1 := Scalar.xori v206 v207
  let c0_i32_160 : BitVec 32 := 0#32
  let v205 : BitVec 1 := Scalar.cmpi .ne v204 c0_i32_160
  let v209 : BitVec 1 := Scalar.andi v208 v205
  let v210 : BitVec 32 := Scalar.addi v204 v203
  let v211 : BitVec 32 := Scalar.select v209 v210 v204
  let c1_i32_166 : BitVec 32 := 1#32
  let c0_i32_168 : BitVec 32 := 0#32
  let c0_i32_169 : BitVec 32 := 0#32
  let c0_i32_170 : BitVec 32 := 0#32
  ![v211.toNat, 1, 0, 0, 0]
def k0_cond4 (i : grid0.Coords) : BitVec 1 :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c37_i32 : BitVec 32 := 37#32
  let v179 : BitVec 1 := Scalar.cmpi .eq v1 c37_i32
  let v180 : BitVec 32 := Scalar.extui v179
  let c0_i32_138 : BitVec 32 := 0#32
  let v181 : BitVec 1 := Scalar.cmpi .ne v180 c0_i32_138
  v181

def k0_off21 (i : grid0.Coords) : Fin 2 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32_139 : BitVec 32 := 2#32
  let c0_i32_140 : BitVec 32 := 0#32
  let v182 : BitVec 1 := Scalar.cmpi .eq c2_i32_139 c0_i32_140
  let c1_i32_141 : BitVec 32 := 1#32
  let v183 : BitVec 32 := Scalar.select v182 c1_i32_141 c2_i32_139
  let v184 : BitVec 32 := Scalar.remsi v1 v183
  let c0_i32_143 : BitVec 32 := 0#32
  let v186 : BitVec 1 := Scalar.cmpi .slt v184 c0_i32_143
  let c0_i32_144 : BitVec 32 := 0#32
  let v187 : BitVec 1 := Scalar.cmpi .slt v183 c0_i32_144
  let v188 : BitVec 1 := Scalar.xori v186 v187
  let c0_i32_142 : BitVec 32 := 0#32
  let v185 : BitVec 1 := Scalar.cmpi .ne v184 c0_i32_142
  let v189 : BitVec 1 := Scalar.andi v188 v185
  let v190 : BitVec 32 := Scalar.addi v184 v183
  let v191 : BitVec 32 := Scalar.select v189 v190 v184
  let c0_i32_149 : BitVec 32 := 0#32
  ![v191.toNat, 0]
def k0_off22 (i : grid0.Coords) : Fin 3 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c218_i32_145 : BitVec 32 := 218#32
  let v192 : BitVec 32 := Scalar.muli v1 c218_i32_145
  let c8032_i32_146 : BitVec 32 := 8032#32
  let v193 : BitVec 32 := Scalar.minsi v192 c8032_i32_146
  let c16_i32_147 : BitVec 32 := 16#32
  let v194 : BitVec 32 := Scalar.muli v193 c16_i32_147
  let c0_i32_150 : BitVec 32 := 0#32
  let c0_i32_151 : BitVec 32 := 0#32
  ![v194.toNat, 0, 0]
def k0_off23 (i : grid0.Coords) : Fin 5 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32_139 : BitVec 32 := 2#32
  let c0_i32_140 : BitVec 32 := 0#32
  let v182 : BitVec 1 := Scalar.cmpi .eq c2_i32_139 c0_i32_140
  let c1_i32_141 : BitVec 32 := 1#32
  let v183 : BitVec 32 := Scalar.select v182 c1_i32_141 c2_i32_139
  let v184 : BitVec 32 := Scalar.remsi v1 v183
  let c0_i32_143 : BitVec 32 := 0#32
  let v186 : BitVec 1 := Scalar.cmpi .slt v184 c0_i32_143
  let c0_i32_144 : BitVec 32 := 0#32
  let v187 : BitVec 1 := Scalar.cmpi .slt v183 c0_i32_144
  let v188 : BitVec 1 := Scalar.xori v186 v187
  let c0_i32_142 : BitVec 32 := 0#32
  let v185 : BitVec 1 := Scalar.cmpi .ne v184 c0_i32_142
  let v189 : BitVec 1 := Scalar.andi v188 v185
  let v190 : BitVec 32 := Scalar.addi v184 v183
  let v191 : BitVec 32 := Scalar.select v189 v190 v184
  let c0_i32_148 : BitVec 32 := 0#32
  let c0_i32_152 : BitVec 32 := 0#32
  let c0_i32_153 : BitVec 32 := 0#32
  let c0_i32_154 : BitVec 32 := 0#32
  ![v191.toNat, 0, 0, 0, 0]
def k0_off24 (i : grid0.Coords) : Fin 2 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32_155 : BitVec 32 := 2#32
  let c0_i32_156 : BitVec 32 := 0#32
  let v200 : BitVec 1 := Scalar.cmpi .eq c2_i32_155 c0_i32_156
  let c1_i32_157 : BitVec 32 := 1#32
  let v201 : BitVec 32 := Scalar.select v200 c1_i32_157 c2_i32_155
  let v202 : BitVec 32 := Scalar.remsi v1 v201
  let c0_i32_159 : BitVec 32 := 0#32
  let v204 : BitVec 1 := Scalar.cmpi .slt v202 c0_i32_159
  let c0_i32_160 : BitVec 32 := 0#32
  let v205 : BitVec 1 := Scalar.cmpi .slt v201 c0_i32_160
  let v206 : BitVec 1 := Scalar.xori v204 v205
  let c0_i32_158 : BitVec 32 := 0#32
  let v203 : BitVec 1 := Scalar.cmpi .ne v202 c0_i32_158
  let v207 : BitVec 1 := Scalar.andi v206 v203
  let v208 : BitVec 32 := Scalar.addi v202 v201
  let v209 : BitVec 32 := Scalar.select v207 v208 v202
  let c1_i32_165 : BitVec 32 := 1#32
  ![v209.toNat, 1]
def k0_off25 (i : grid0.Coords) : Fin 5 → Nat :=
  let arg0 : BitVec 32 := BitVec.ofNat 32 (i 0).val
  let c19_i32 : BitVec 32 := 19#32
  let v0 : BitVec 32 := Scalar.muli arg0 c19_i32
  let arg1 : BitVec 32 := BitVec.ofNat 32 (i 1).val
  let v1 : BitVec 32 := Scalar.addi v0 arg1
  let c2_i32_155 : BitVec 32 := 2#32
  let c0_i32_156 : BitVec 32 := 0#32
  let v200 : BitVec 1 := Scalar.cmpi .eq c2_i32_155 c0_i32_156
  let c1_i32_157 : BitVec 32 := 1#32
  let v201 : BitVec 32 := Scalar.select v200 c1_i32_157 c2_i32_155
  let v202 : BitVec 32 := Scalar.remsi v1 v201
  let c0_i32_159 : BitVec 32 := 0#32
  let v204 : BitVec 1 := Scalar.cmpi .slt v202 c0_i32_159
  let c0_i32_160 : BitVec 32 := 0#32
  let v205 : BitVec 1 := Scalar.cmpi .slt v201 c0_i32_160
  let v206 : BitVec 1 := Scalar.xori v204 v205
  let c0_i32_158 : BitVec 32 := 0#32
  let v203 : BitVec 1 := Scalar.cmpi .ne v202 c0_i32_158
  let v207 : BitVec 1 := Scalar.andi v206 v203
  let v208 : BitVec 32 := Scalar.addi v202 v201
  let v209 : BitVec 32 := Scalar.select v207 v208 v202
  let c1_i32_164 : BitVec 32 := 1#32
  let c0_i32_168 : BitVec 32 := 0#32
  let c0_i32_169 : BitVec 32 := 0#32
  let c0_i32_170 : BitVec 32 := 0#32
  ![v209.toNat, 1, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2560x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2560x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2560x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S5120x2560 : Shape := ⟨2, ![5120, 2560]⟩
abbrev S2560x9728 : Shape := ⟨2, ![2560, 9728]⟩
abbrev S9728 : Shape := ⟨1, ![9728]⟩
abbrev S132000x8x128 : Shape := ⟨3, ![132000, 8, 128]⟩
abbrev S1x9728 : Shape := ⟨2, ![1, 9728]⟩
abbrev S5120x9728 : Shape := ⟨2, ![5120, 9728]⟩

abbrev nBuf : Space → Nat
  | .hbm => 10
  | .vmem => 6
  | .smem => 0
  | _ => 0

abbrev bufTy : (tb : Table) → Fin (tcTables nBuf tb) → BufTy
  | .hbm, ⟨0, _⟩ => ⟨S5120x2560, .bf16⟩
  | .hbm, ⟨1, _⟩ => ⟨S2560x9728, .fp8e4m3⟩
  | .hbm, ⟨2, _⟩ => ⟨S9728, .f32⟩
  | .hbm, ⟨3, _⟩ => ⟨S2560x9728, .fp8e4m3⟩
  | .hbm, ⟨4, _⟩ => ⟨S9728, .f32⟩
  | .hbm, ⟨5, _⟩ => ⟨S132000x8x128, .fp8e4m3⟩
  | .hbm, ⟨6, _⟩ => ⟨S132000x8x128, .fp8e4m3⟩
  | .hbm, ⟨7, _⟩ => ⟨S1x9728, .f32⟩
  | .hbm, ⟨8, _⟩ => ⟨S1x9728, .f32⟩
  | .hbm, ⟨9, _⟩ => ⟨S5120x9728, .bf16⟩
  | .local _ .vmem, ⟨0, _⟩ => ⟨S5120x2560, .bf16⟩
  | .local _ .vmem, ⟨1, _⟩ => ⟨S2560x9728, .fp8e4m3⟩
  | .local _ .vmem, ⟨2, _⟩ => ⟨S1x9728, .f32⟩
  | .local _ .vmem, ⟨3, _⟩ => ⟨S2560x9728, .fp8e4m3⟩
  | .local _ .vmem, ⟨4, _⟩ => ⟨S1x9728, .f32⟩
  | .local _ .vmem, ⟨5, _⟩ => ⟨S5120x9728, .bf16⟩
  | _, _ => ⟨S5120x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S5120x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x9728 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9728 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x9728 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x9728 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x9728 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.QkvSpec.lean ====
module

public import proofs.«01_k».proof.QkvIdeal
public import Idealize.ShloMosaic.Lib.Pipeline.ValueKit
public import Idealize.ShloMosaic.Lib.Pointwise

/-! The layer's first section over the reals, one row at a time: the RMS norm of the row, its product with `w_qkv`, the
    rotary embedding of the query and key heads, and the codes of the key and value heads. Both programs are shown to
    leave arrays made of these rows. -/

@[expose] public section

noncomputable section

namespace Cert.QkvIdeal.Spec

open Cert.QkvIdeal Idealize.ShloMosaic

/-- `1 / sqrt(mean(x²) + ε)` of a row. -/
def inv (x : Fin 2560 → EReal) : EReal :=
  Ideal.rsqrt ((∑ k : Fin 2560, x k * x k) * ((1 / 2560 : ℝ) : EReal) + Ideal.ofBits .f32 925353388#32)

/-- Column `j` of a row's scaled product: `(rmsnorm(x) @ w) * s`. -/
def proj (x g : Fin 2560 → EReal) (w : Fin 2560 → Fin 6144 → EReal) (s : Fin 6144 → EReal) (j : Fin 6144) : EReal :=
  (∑ k : Fin 2560, x k * inv x * g k * w k j) * s j

/-- The rotary embedding of one head `t` at the angles `a`: the first half's partner is the second half negated, the
    second half's is the first. -/
def rope (t a : Fin 128 → EReal) (l : Fin 128) : EReal :=
  t l * Ideal.cos (a l) +
    (if h : l.val < 64 then -(t ⟨l.val + 64, by omega⟩) else t ⟨l.val - 64, by omega⟩) * Ideal.sin (a l)

/-- A value's code before its rounding to 8 bits: the value over the scale, clipped to ±448. -/
def code (t scale : EReal) : EReal :=
  min (Ideal.ofBits .f32 0x43E00000#32) (max (Ideal.ofBits .f32 0xC3E00000#32) (Ideal.div t scale))

/-- The 64 rotary frequencies `θ ^ (-(2 i) / 128)`, as both programs' host code computes them. -/
def invFreq : Vec Ideal S64 .f32 :=
  Host.powf (F := Ideal) (φ := .f32) (fun _ => Ideal.ofBits .f32 0x48F42400#32)
    (Host.divf (F := Ideal) (φ := .f32)
      (Host.negf (F := Ideal) (φ := .f32) (mulf (F := Ideal) (φ := .f32) (fun _ => Ideal.ofBits .f32 0x40000000#32)
        (sitofp (F := Ideal) .f32 (iotaInDim S64 32 0))))
      (fun _ => Ideal.ofBits .f32 0x43000000#32))

/-- The angle of lane `l` at a position: the position times the frequency of the lane's pair. -/
def angle (p : BitVec 32) (l : Fin 128) : EReal :=
  ((p.toInt : ℝ) : EReal) * invFreq (ix1 ⟨l.val % 64, by omega⟩)

section arrays

variable (x : Vec Ideal S5120x2560 .bf16) (p : Vec Ideal S5120 .i32) (g : Vec Ideal S2560 .f32)
  (w : Vec Ideal S2560x6144 .fp8e4m3) (s : Vec Ideal S6144 .f32) (sc : Vec Ideal S1 .f32)

/-- Column `j` of row `r` of the scaled product. -/
def qkv (r : Fin 5120) (j : Fin 6144) : EReal :=
  proj (fun k => x (ix2 r k)) (fun k => g (ix1 k)) (fun k j => w (ix2 k j)) (fun j => s (ix1 j)) j

/-- The rotated queries. -/
def q : Vec Ideal S5120x32x128 .bf16 := fun y =>
  rope (fun l => qkv x g w s (y 0) ⟨128 * (y 1).val + l.val, by have : (y 1).val < 32 := (y 1).isLt; omega⟩)
    (angle (p (ix1 (y 0)))) (y 2)

/-- The codes of the rotated keys. -/
def kCodes : Vec Ideal S5120x8x128 .fp8e4m3 := fun y =>
  code (rope (fun l => qkv x g w s (y 0) ⟨4096 + (128 * (y 1).val + l.val), by have : (y 1).val < 8 := (y 1).isLt; omega⟩)
    (angle (p (ix1 (y 0)))) (y 2)) (sc (ix1 0))

/-- The codes of the values. -/
def vCodes : Vec Ideal S5120x8x128 .fp8e4m3 := fun y =>
  code (qkv x g w s (y 0) ⟨5120 + (128 * (y 1).val + (y 2).val), by
    have : (y 1).val < 8 := (y 1).isLt; have : (y 2).val < 128 := (y 2).isLt; omega⟩) (sc (ix1 0))

end arrays

end Cert.QkvIdeal.Spec
-- ==== Proof.QkvSquares.lean ====
/-
  The sum of squares of one row of a block of the query, key and value projection, over real numbers. The kernel takes the
  row's 2560 columns as 320 groups of 8 and adds the groups up in three runs, at columns 0, 856 and 1712; each run is then
  folded from 8 lanes to one. Here each run is its plain sum, and the three together the sum over the row.
-/
module

public import proofs.«01_k».proof.Proof.QkvSpec
public import proofs.«01_k».proof.Proof.Gen.QkvIdeal.Value
public import Idealize.ShloMosaic.Lib.Pipeline.ValueKit
public import Idealize.ShloMosaic.Lib.Pointwise
public import Idealize.ShloMosaic.Lib.Tactic.RunNames

@[expose] public section

set_option maxRecDepth 16384

noncomputable section

namespace Cert.QkvIdeal.Block

open Cert.QkvIdeal Cert.QkvIdeal.Gen Idealize.ShloMosaic Idealize.ShloMosaic.TcCoe Idealize.SL.Sem

/-- Column `n` of row `r` of a block. -/
def col (x4 : Vec Ideal S512x2560 .bf16) (r : Fin 512) (n : ℕ) : EReal := if h : n < 2560 then x4 (ix2 r ⟨n, h⟩) else 0

/-- The square of column `n` of row `r` of a block. -/
abbrev sq (x4 : Vec Ideal S512x2560 .bf16) (r : Fin 512) (n : ℕ) : EReal := col x4 r n * col x4 r n

variable (c : Dev nD) (arg5 : Memref sig .tc .vmem S512x2560 .bf16) (h5 : arg5.IsWhole) (x4 : Vec Ideal S512x2560 .bf16)

/-- An entry of the block, as `col` names it. -/
theorem col_eq (r : Fin 512) (n : ℕ) (h : n < 2560) : x4 (ix2 r ⟨n, h⟩) = col x4 r n := by
  rw [col, dif_pos h]

set_option maxHeartbeats 1000000 in
/-- The first run. -/
theorem run_a (s : Fin 8) (r : Fin 512) : kernelRun0_A.sl.v447 (F := Ideal) c arg5 h5 x4 (ix2 s r) =
    ∑ j ∈ Finset.range 107, sq x4 r (8 * j + s.val) := by
  sl_unfold_run_values
  simp only [View.readAt_eq_ld, h5.read_unread]
  pointwise
  simp only [col_eq, Finset.sum_range_succ, Finset.sum_range_zero, zero_add, ← Nat.add_assoc, Nat.reduceAdd, Nat.reduceMul]

set_option maxHeartbeats 1000000 in
/-- The second run. -/
theorem run_b (s : Fin 8) (r : Fin 512) : kernelRun0_A.sl.v904 (F := Ideal) c arg5 h5 x4 (ix2 s r) =
    ∑ j ∈ Finset.range 107, sq x4 r (856 + 8 * j + s.val) := by
  sl_unfold_run_values
  simp only [View.readAt_eq_ld, h5.read_unread]
  pointwise
  simp only [col_eq, Finset.sum_range_succ, Finset.sum_range_zero, zero_add, ← Nat.add_assoc, Nat.reduceAdd, Nat.reduceMul]

set_option maxHeartbeats 1000000 in
/-- The third run, up to its last five groups. -/
theorem run_c (s : Fin 8) (r : Fin 512) : kernelRun0_A.sl.v1335 (F := Ideal) c arg5 h5 x4 (ix2 s r) =
    ∑ j ∈ Finset.range 101, sq x4 r (1712 + 8 * j + s.val) := by
  sl_unfold_run_values
  simp only [View.readAt_eq_ld, h5.read_unread]
  pointwise
  simp only [col_eq, Finset.sum_range_succ, Finset.sum_range_zero, zero_add, ← Nat.add_assoc, Nat.reduceAdd, Nat.reduceMul]

/-- The sum over a row, taken as 8 lanes of 320 groups in three runs. -/
theorem sum_runs (g : ℕ → EReal) :
    (∑ s : Fin 8, ∑ j ∈ Finset.range 107, g (8 * j + s.val)) + (∑ s : Fin 8, ∑ j ∈ Finset.range 107, g (856 + 8 * j + s.val)) +
      (∑ s : Fin 8, ∑ j ∈ Finset.range 106, g (1712 + 8 * j + s.val)) = ∑ k : Fin 2560, g k.val := by
  rw [← Finset.sum_add_distrib, ← Finset.sum_add_distrib]
  refine Eq.trans ?_ (Fin.sum_univ_univ_mul_add 320 8 g)
  rw [Finset.sum_comm]
  refine Finset.sum_congr rfl fun s _ => ?_
  rw [Fin.sum_univ_eq_sum_range (fun i => g (i * 8 + s.val)) 320, ← Finset.sum_range_add_sum_Ico _ (show 214 ≤ 320 by norm_num),
    ← Finset.sum_range_add_sum_Ico _ (show 107 ≤ 214 by norm_num), Finset.sum_Ico_eq_sum_range, Finset.sum_Ico_eq_sum_range]
  simp only [show 214 - 107 = 107 from rfl, show 320 - 214 = 106 from rfl]
  refine congrArg₂ (· + ·) (congrArg₂ (· + ·) ?_ ?_) ?_ <;> exact Finset.sum_congr rfl fun j _ => congrArg g (by omega)

/-- The fold of 8 lanes to one, as the kernel adds them. -/
theorem fold8 (f : Fin 8 → EReal) : ((f 0 + f 4) + (f 2 + f 6)) + ((f 1 + f 5) + (f 3 + f 7)) = ∑ s, f s := by
  rw [Fin.sum_univ_eight]
  abel

/-- The sum of the first two runs, one number a row. -/
theorem tot_ab (r : Fin 512) : kernelRun0_A.sl.v914 (F := Ideal) c arg5 h5 x4 (ix2 0 r) =
    (∑ s : Fin 8, ∑ j ∈ Finset.range 107, sq x4 r (8 * j + s.val)) + (∑ s : Fin 8, ∑ j ∈ Finset.range 107, sq x4 r (856 + 8 * j + s.val)) := by
  simp only [kernelRun0_A.sl.v914, kernelRun0_A.sl.v456, kernelRun0_A.sl.v455, kernelRun0_A.sl.v454, kernelRun0_A.sl.v453,
    kernelRun0_A.sl.v452, kernelRun0_A.sl.v451, kernelRun0_A.sl.v450, kernelRun0_A.sl.v449, kernelRun0_A.sl.v448,
    kernelRun0_A.sl.v913, kernelRun0_A.sl.v912, kernelRun0_A.sl.v911, kernelRun0_A.sl.v910,
    kernelRun0_A.sl.v909, kernelRun0_A.sl.v908, kernelRun0_A.sl.v907, kernelRun0_A.sl.v906, kernelRun0_A.sl.v905]
  pointwise
  rw [← fold8, ← fold8]
  simp only [run_a, run_b]

/-- The column of row scales the kernel multiplies with: each row's `1 / sqrt(mean(x²) + ε)`. -/
theorem inv_pay (r : Fin 512) (l : Fin 128) : kernelRun0_A.sl.r (F := Ideal) c arg5 h5 x4 (ix2 r l) = Spec.inv fun k => x4 (ix2 r k) := by
  have hl : ∀ s, kernelRun0_A.sl.v1338 (F := Ideal) c arg5 h5 x4 (ix2 s r) = sq x4 r (1712 + 8 * 101 + s.val) := by
    intro s
    sl_unfold_run_values
    simp only [View.readAt_eq_ld, h5.read_unread]
    pointwise
    simp only [col_eq, ← Nat.add_assoc, Nat.reduceAdd, Nat.reduceMul]
  have hs : ∀ n : Fin 128, kernelRun0_A.sl.v1291 (F := Ideal) c arg5 h5 x4 (ix2 n r) = col x4 r (2432 + n.val) := by
    intro s
    sl_unfold_run_values
    simp only [View.readAt_eq_ld, h5.read_unread]
    pointwise
    simp only [col_eq]
  have hf : ∀ s : Fin 8, (kernelRun0_A.sl.v1335 (F := Ideal) c arg5 h5 x4 (ix2 s r) + kernelRun0_A.sl.v1338 (F := Ideal) c arg5 h5 x4 (ix2 s r) +
      kernelRun0_A.sl.v1291 (F := Ideal) c arg5 h5 x4 (ix2 ⟨96 + s.val, by omega⟩ r) * kernelRun0_A.sl.v1291 (F := Ideal) c arg5 h5 x4 (ix2 ⟨96 + s.val, by omega⟩ r) +
      kernelRun0_A.sl.v1291 (F := Ideal) c arg5 h5 x4 (ix2 ⟨104 + s.val, by omega⟩ r) * kernelRun0_A.sl.v1291 (F := Ideal) c arg5 h5 x4 (ix2 ⟨104 + s.val, by omega⟩ r) +
      kernelRun0_A.sl.v1291 (F := Ideal) c arg5 h5 x4 (ix2 ⟨112 + s.val, by omega⟩ r) * kernelRun0_A.sl.v1291 (F := Ideal) c arg5 h5 x4 (ix2 ⟨112 + s.val, by omega⟩ r) +
      kernelRun0_A.sl.v1291 (F := Ideal) c arg5 h5 x4 (ix2 ⟨120 + s.val, by omega⟩ r) * kernelRun0_A.sl.v1291 (F := Ideal) c arg5 h5 x4 (ix2 ⟨120 + s.val, by omega⟩ r) : EReal) =
      ∑ j ∈ Finset.range 106, sq x4 r (1712 + 8 * j + s.val) := by
    intro s
    simp only [run_c, hl, hs, Finset.sum_range_succ _ 105, Finset.sum_range_succ _ 104, Finset.sum_range_succ _ 103,
      Finset.sum_range_succ _ 102, Finset.sum_range_succ _ 101, ← Nat.add_assoc, Nat.reduceAdd, Nat.reduceMul]
  have hk : (∑ k : Fin 2560, sq x4 r k.val) = ∑ k : Fin 2560, (x4 (ix2 r k) : EReal) * x4 (ix2 r k) :=
    Finset.sum_congr rfl fun k _ => by simp [sq, col]
  unfold kernelRun0_A.sl.r
  pointwise [k0_pay68, Spec.inv]
  rw [IdealRules.named_const.ideal_named_scalar _ _ _ _ rfl]
  refine congrArg (fun z => Ideal.rsqrt (z * ((1 / 2560 : ℝ) : EReal) + Ideal.ofBits .f32 925353388#32)) (Eq.trans ?_ hk)
  rw [← sum_runs (sq x4 r), ← tot_ab c arg5 h5 x4 r, ← Finset.sum_congr rfl fun s _ => hf s, ← fold8]
  rfl

end Cert.QkvIdeal.Block
-- ==== Proof.QkvBlock.lean ====
/-
  What one grid point of the query, key and value projection leaves in its three output blocks, over real numbers: the
  rotated queries, the codes of the rotated keys and the codes of the values, as functions of the point's input blocks.
-/
module

public import proofs.«01_k».proof.Proof.QkvSquares

@[expose] public section

set_option maxRecDepth 16384

noncomputable section

namespace Cert.QkvIdeal.Block

open Cert.QkvIdeal Cert.QkvIdeal.Gen Idealize.ShloMosaic Idealize.ShloMosaic.TcCoe Idealize.SL.Sem

/-- The block's normalised rows. -/
def Hn (x4 : Vec Ideal S512x2560 .bf16) (x5 : Vec Ideal S1x2560 .f32) : Vec Ideal S512x2560 .bf16 := fun y =>
  (x4 y : EReal) * Spec.inv (fun k => x4 (ix2 (y 0) k)) * x5 (ix2 0 (y 1))

/-- The angles of the block's rows, one head wide. -/
def An (x2 : Vec Ideal S1x1x512 .i32) (x3 : Vec Ideal S1x128 .f32) (r : Fin 512) (l : Fin 128) : EReal :=
  (((x2 (ix3 0 0 r) : BitVec 32).toInt : ℝ) : EReal) * x3 (ix2 0 l)

/-- The cosines of the block's angles. -/
def Cn (x2 : Vec Ideal S1x1x512 .i32) (x3 : Vec Ideal S1x128 .f32) : Vec Ideal S512x128 .f32 := fun y =>
  Ideal.cos (An x2 x3 (y 0) (y 1))

/-- The sines of the block's angles, negated in the first half of a head. -/
def Sn (x2 : Vec Ideal S1x1x512 .i32) (x3 : Vec Ideal S1x128 .f32) : Vec Ideal S512x128 .f32 := fun y =>
  if (y 1).val < 64 then -Ideal.sin (An x2 x3 (y 0) (y 1)) else Ideal.sin (An x2 x3 (y 0) (y 1))

/-- A normalised entry, its row and column given. -/
theorem Hn_at (x4 : Vec Ideal S512x2560 .bf16) (x5 : Vec Ideal S1x2560 .f32) (y : S512x2560.Idx) (r : Fin 512) (n : ℕ)
    (h0 : (y 0).val = r.val) (h1 : (y 1).val = n) : Hn x4 x5 y = (x4 (ix2 r ⟨n, h1 ▸ (y 1).isLt⟩) : EReal) *
      Spec.inv (fun k => x4 (ix2 r k)) * x5 (ix2 0 ⟨n, h1 ▸ (y 1).isLt⟩) := by
  subst h1
  obtain rfl : y 0 = r := Fin.ext h0
  unfold Hn
  conv_lhs => rw [eq_ix2 y]
  rfl

/-- Lane `l` of a head lies in the first half. -/
theorem half (l : Fin 128) : IntOp.cmpi .slt (BitVec.ofNat 32 l.val) 64#32 = if l.val < 64 then 1#1 else 0#1 := by
  revert l; decide +kernel

section run

variable (c : Dev nD)
  (arg3 : Memref sig .tc .vmem S1x1x512 .i32) (h3 : arg3.IsWhole) (arg4 : Memref sig .tc .vmem S1x128 .f32) (h4 : arg4.IsWhole)
  (arg5 : Memref sig .tc .vmem S512x2560 .bf16) (h5 : arg5.IsWhole) (arg6 : Memref sig .tc .vmem S1x2560 .f32) (h6 : arg6.IsWhole)
  (arg7 : Memref sig .tc .vmem S2560x6144 .fp8e4m3) (h7 : arg7.IsWhole) (arg8 : Memref sig .tc .vmem S1x6144 .f32) (h8 : arg8.IsWhole)
  (arg12 : Memref sig .tc .vmem S512x2560 .bf16) (arg13 arg14 : Memref sig .tc .vmem S512x128 .f32)
  (x2 : Vec Ideal S1x1x512 .i32) (x3 : Vec Ideal S1x128 .f32) (x4 : Vec Ideal S512x2560 .bf16) (x5 : Vec Ideal S1x2560 .f32)
  (x6 : Vec Ideal S2560x6144 .fp8e4m3) (x7 : Vec Ideal S1x6144 .f32)

/-- The column of scales, at an index; -/
theorem inv_z (z : S512x128.Idx) : kernelRun0_A.sl.r (F := Ideal) c arg5 h5 x4 z = Spec.inv fun k => x4 (ix2 (z 0) k) := by
  conv_lhs => rw [eq_ix2 z]
  exact inv_pay c arg5 h5 x4 (z 0) (z 1)

/-- the same, as the first two stores name it. -/
theorem inv_z' (z : S512x128.Idx) : k0_pay68 (F := Ideal) (kernelRun0_A.sl.v914 c arg5 h5 x4)
    (kernelRun0_A.sl.v1291 c arg5 h5 x4) (kernelRun0_A.sl.v1335 c arg5 h5 x4) (kernelRun0_A.sl.v1338 c arg5 h5 x4) z =
    Spec.inv fun k => x4 (ix2 (z 0) k) :=
  inv_z c arg5 h5 x4 z

/-- The 20 stores into the scratch leave the normalised rows. -/
theorem scratch_pieces (y : S512x2560.Idx) : View.canon (kernelRun0_A.sl.HS0_20 (F := Ideal) c arg5 h5 arg6 h6 x4 x5) y = Hn x4 x5 y := by
  unfold kernelRun0_A.sl.HS0_20
  canon_tiles z hz
  all_goals rw [Hn_at x4 x5 y (z 0) _ hz0 hz1]
  all_goals simp only [kernelRun0_A.sl.v1593, kernelRun0_A.sl.v1590, kernelRun0_A.sl.v1589, kernelRun0_A.sl.v1585, kernelRun0_A.sl.v1584, kernelRun0_A.sl.v1588,
    kernelRun0_A.sl.v1587, kernelRun0_A.sl.v1582, kernelRun0_A.sl.v1579, kernelRun0_A.sl.v1578, kernelRun0_A.sl.v1574, kernelRun0_A.sl.v1573,
    kernelRun0_A.sl.v1577, kernelRun0_A.sl.v1576, kernelRun0_A.sl.v1571, kernelRun0_A.sl.v1568, kernelRun0_A.sl.v1567, kernelRun0_A.sl.v1563,
    kernelRun0_A.sl.v1562, kernelRun0_A.sl.v1566, kernelRun0_A.sl.v1565, kernelRun0_A.sl.v1560, kernelRun0_A.sl.v1557, kernelRun0_A.sl.v1556,
    kernelRun0_A.sl.v1552, kernelRun0_A.sl.v1551, kernelRun0_A.sl.v1555, kernelRun0_A.sl.v1554, kernelRun0_A.sl.v1549, kernelRun0_A.sl.v1546,
    kernelRun0_A.sl.v1545, kernelRun0_A.sl.v1541, kernelRun0_A.sl.v1540, kernelRun0_A.sl.v1544, kernelRun0_A.sl.v1543, kernelRun0_A.sl.v1538,
    kernelRun0_A.sl.v1535, kernelRun0_A.sl.v1534, kernelRun0_A.sl.v1530, kernelRun0_A.sl.v1529, kernelRun0_A.sl.v1533, kernelRun0_A.sl.v1532,
    kernelRun0_A.sl.v1527, kernelRun0_A.sl.v1524, kernelRun0_A.sl.v1523, kernelRun0_A.sl.v1519, kernelRun0_A.sl.v1518, kernelRun0_A.sl.v1522,
    kernelRun0_A.sl.v1521, kernelRun0_A.sl.v1516, kernelRun0_A.sl.v1513, kernelRun0_A.sl.v1512, kernelRun0_A.sl.v1508, kernelRun0_A.sl.v1507,
    kernelRun0_A.sl.v1511, kernelRun0_A.sl.v1510, kernelRun0_A.sl.v1505, kernelRun0_A.sl.v1502, kernelRun0_A.sl.v1501, kernelRun0_A.sl.v1497,
    kernelRun0_A.sl.v1496, kernelRun0_A.sl.v1500, kernelRun0_A.sl.v1499, kernelRun0_A.sl.v1494, kernelRun0_A.sl.v1491, kernelRun0_A.sl.v1490,
    kernelRun0_A.sl.v1486, kernelRun0_A.sl.v1485, kernelRun0_A.sl.v1489, kernelRun0_A.sl.v1488, kernelRun0_A.sl.v1483, kernelRun0_A.sl.v1480,
    kernelRun0_A.sl.v1479, kernelRun0_A.sl.v1475, kernelRun0_A.sl.v1474, kernelRun0_A.sl.v1478, kernelRun0_A.sl.v1477, kernelRun0_A.sl.v1472,
    kernelRun0_A.sl.v1469, kernelRun0_A.sl.v1468, kernelRun0_A.sl.v1464, kernelRun0_A.sl.v1463, kernelRun0_A.sl.v1467, kernelRun0_A.sl.v1466,
    kernelRun0_A.sl.v1461, kernelRun0_A.sl.v1458, kernelRun0_A.sl.v1457, kernelRun0_A.sl.v1453, kernelRun0_A.sl.v1452, kernelRun0_A.sl.v1456,
    kernelRun0_A.sl.v1455, kernelRun0_A.sl.v1450, kernelRun0_A.sl.v1447, kernelRun0_A.sl.v1446, kernelRun0_A.sl.v1442, kernelRun0_A.sl.v1441,
    kernelRun0_A.sl.v1445, kernelRun0_A.sl.v1444, kernelRun0_A.sl.v1439, kernelRun0_A.sl.v1436, kernelRun0_A.sl.v1435, kernelRun0_A.sl.v1431,
    kernelRun0_A.sl.v1430, kernelRun0_A.sl.v1434, kernelRun0_A.sl.v1433, kernelRun0_A.sl.v1428, kernelRun0_A.sl.v1425, kernelRun0_A.sl.v1424,
    kernelRun0_A.sl.v1420, kernelRun0_A.sl.v1419, kernelRun0_A.sl.v1423, kernelRun0_A.sl.v1422, kernelRun0_A.sl.v1417, kernelRun0_A.sl.v1414,
    kernelRun0_A.sl.v1413, kernelRun0_A.sl.v1409, kernelRun0_A.sl.v1408, kernelRun0_A.sl.v1412, kernelRun0_A.sl.v1411, kernelRun0_A.sl.v1406,
    kernelRun0_A.sl.v1403, kernelRun0_A.sl.v1402, kernelRun0_A.sl.v1398, kernelRun0_A.sl.v1397, kernelRun0_A.sl.v1401, kernelRun0_A.sl.v1400,
    kernelRun0_A.sl.v1395, kernelRun0_A.sl.v1392, kernelRun0_A.sl.v1391, kernelRun0_A.sl.r_1, kernelRun0_A.sl.v1390, kernelRun0_A.sl.v1389,
    View.readAt_eq_ld, h5.read_unread, h6.read_unread]
  all_goals pointwise [k0_pay69, k0_pay70]
  all_goals simp only [inv_z, inv_z']

/-- The cosines' scratch. -/
theorem cos_pieces (y : S512x128.Idx) : View.canon (kernelRun0_A.sl.HS1_1 (F := Ideal) c arg3 h3 arg4 h4 x2 x3) y = Cn x2 x3 y := by
  unfold kernelRun0_A.sl.HS1_1
  rw [View.canon_cons_unit_lit]
  · sl_unfold_run_values
    simp only [View.readAt_eq_ld, h3.read_unread, h4.read_unread]
    pointwise [Cn, An]
    rfl
  · intro a; fin_cases a <;> rfl

/-- The signed sines' scratch. -/
theorem sin_pieces (y : S512x128.Idx) : View.canon (kernelRun0_A.sl.HS2_1 (F := Ideal) c arg3 h3 arg4 h4 x2 x3) y = Sn x2 x3 y := by
  unfold kernelRun0_A.sl.HS2_1
  rw [View.canon_cons_unit_lit]
  · sl_unfold_run_values
    simp only [View.readAt_eq_ld, h3.read_unread, h4.read_unread]
    pointwise [Sn, An]
    rw [show IntOp.cmpi .slt (BitVec.ofNat 32 (y 1).val) 64#32 = _ from half (y 1), zero_sub]
    split_ifs <;> rfl
  · intro a; fin_cases a <;> rfl

/-- The scratch, read whole after its 20 stores, holds the normalised rows; -/
theorem scratch_eq (v : View sig .tc .vmem S512x2560 .bf16) (h) : v.readCov (kernelRun0_A.sl.HS0_20 (F := Ideal) c arg5 h5 arg6 h6 x4 x5)
    (Rect.unit ![0, 0] ![512, 2560] h).toLoadRect = Hn x4 x5 := by
  rw [View.readCov_eq_canon']
  funext y
  refine (scratch_pieces c arg5 h5 arg6 h6 x4 x5 _).trans (congrArg (Hn x4 x5) ?_)
  funext a
  apply Fin.ext
  fin_cases a <;> simp [Rect.idx_unit_val]

/-- the second, the cosines; -/
theorem cos_eq (v : View sig .tc .vmem S512x128 .f32) (h) : v.readCov (kernelRun0_A.sl.HS1_1 (F := Ideal) c arg3 h3 arg4 h4 x2 x3)
    (Rect.unit ![0, 0] ![512, 128] h).toLoadRect = Cn x2 x3 := by
  rw [View.readCov_eq_canon']
  funext y
  refine (cos_pieces c arg3 h3 arg4 h4 x2 x3 _).trans (congrArg (Cn x2 x3) ?_)
  funext a
  apply Fin.ext
  fin_cases a <;> simp [Rect.idx_unit_val]

/-- and the third, the signed sines. -/
theorem sin_eq (v : View sig .tc .vmem S512x128 .f32) (h) : v.readCov (kernelRun0_A.sl.HS2_1 (F := Ideal) c arg3 h3 arg4 h4 x2 x3)
    (Rect.unit ![0, 0] ![512, 128] h).toLoadRect = Sn x2 x3 := by
  rw [View.readCov_eq_canon']
  funext y
  refine (sin_pieces c arg3 h3 arg4 h4 x2 x3 _).trans (congrArg (Sn x2 x3) ?_)
  funext a
  apply Fin.ext
  fin_cases a <;> simp [Rect.idx_unit_val]

end run

section block

variable (x2 : Vec Ideal S1x1x512 .i32) (x3 : Vec Ideal S1x128 .f32) (x4 : Vec Ideal S512x2560 .bf16) (x5 : Vec Ideal S1x2560 .f32)
  (x6 : Vec Ideal S2560x6144 .fp8e4m3) (x7 : Vec Ideal S1x6144 .f32) (sc : Vec Ideal S1 .f32)

/-- Row `r`, column `n` of the block's scaled product. -/
def Pn (r : Fin 512) (n : Fin 6144) : EReal :=
  Spec.proj (fun k => x4 (ix2 r k)) (fun k => x5 (ix2 0 k)) (fun k j => x6 (ix2 k j)) (fun j => x7 (ix2 0 j)) n

/-- The block's rotated queries. -/
def Qn : Vec Ideal S512x32x128 .bf16 := fun y =>
  Spec.rope (fun l => Pn x4 x5 x6 x7 (y 0) ⟨128 * (y 1).val + l.val, by have : (y 1).val < 32 := (y 1).isLt; omega⟩) (An x2 x3 (y 0)) (y 2)

/-- The block's rotated keys. -/
def Kr (y : S512x8x128.Idx) : EReal :=
  Spec.rope (fun l => Pn x4 x5 x6 x7 (y 0) ⟨4096 + (128 * (y 1).val + l.val), by have : (y 1).val < 8 := (y 1).isLt; omega⟩)
    (An x2 x3 (y 0)) (y 2)

/-- The block's codes of the rotated keys. -/
def Kn : Vec Ideal S512x8x128 .fp8e4m3 := fun y => Spec.code (Kr x2 x3 x4 x5 x6 x7 y) (sc (ix1 0))

/-- The block's values. -/
def Vr (y : S512x8x128.Idx) : EReal :=
  Pn x4 x5 x6 x7 (y 0) ⟨5120 + (128 * (y 1).val + (y 2).val), by
    have : (y 1).val < 8 := (y 1).isLt; have : (y 2).val < 128 := (y 2).isLt; omega⟩

/-- The block's codes of the values. -/
def Vn : Vec Ideal S512x8x128 .fp8e4m3 := fun y => Spec.code (Vr x4 x5 x6 x7 y) (sc (ix1 0))

/-- A product of the normalised rows, scaled, is the block's. -/
theorem prod_eq (r : Fin 512) (n : Fin 6144) :
    (∑ k : Fin 2560, (Hn x4 x5 (ix2 r k) : EReal) * x6 (ix2 k n)) * x7 (ix2 0 n) = Pn x4 x5 x6 x7 r n := rfl

/-- The rotation as the kernel takes it: the head times the cosines, plus the head turned by half times the signed sines. -/
theorem rope_eq (T : Fin 128 → EReal) (r : Fin 512) (l : Fin 128) :
    T l * Cn x2 x3 (ix2 r l) + T ⟨(l.val + 128 - 64) % 128, by omega⟩ * Sn x2 x3 (ix2 r l) = Spec.rope T (An x2 x3 r) l := by
  show T l * Ideal.cos (An x2 x3 r l) + T _ * (if l.val < 64 then -Ideal.sin (An x2 x3 r l) else Ideal.sin (An x2 x3 r l)) = _
  unfold Spec.rope
  split_ifs with h
  · rw [show (⟨(l.val + 128 - 64) % 128, by omega⟩ : Fin 128) = ⟨l.val + 64, by omega⟩ from Fin.ext (by simp; omega), mul_neg, neg_mul]
  · rw [show (⟨(l.val + 128 - 64) % 128, by omega⟩ : Fin 128) = ⟨l.val - 64, by omega⟩ from Fin.ext (by simp; omega)]

/-- A rotated entry as it is stored, from the columns it is made of. -/
theorem rot (r : Fin 512) (l : Fin 128) (b : ℕ) (hb : b + 128 ≤ 6144) (i j : Fin 6144) (ei : i.val = b + l.val)
    (ej : j.val = b + (l.val + 128 - 64) % 128) :
    (∑ k : Fin 2560, (Hn x4 x5 (ix2 r k) : EReal) * x6 (ix2 k i)) * x7 (ix2 0 i) * Cn x2 x3 (ix2 r l) +
      (∑ k : Fin 2560, (Hn x4 x5 (ix2 r k) : EReal) * x6 (ix2 k j)) * x7 (ix2 0 j) * Sn x2 x3 (ix2 r l) =
    Spec.rope (fun l => Pn x4 x5 x6 x7 r ⟨b + l.val, by omega⟩) (An x2 x3 r) l := by
  have hi : b + l.val < 6144 := by omega
  have hj : b + (l.val + 128 - 64) % 128 < 6144 := by omega
  obtain rfl : i = ⟨_, hi⟩ := Fin.ext ei
  obtain rfl : j = ⟨_, hj⟩ := Fin.ext ej
  exact rope_eq x2 x3 (fun l => Pn x4 x5 x6 x7 r ⟨b + l.val, by omega⟩) r l

/-- A rotated query as it is stored. -/
theorem rotQ (y : S512x32x128.Idx) (r : Fin 512) (l : Fin 128) (h0 : (y 0).val = r.val) (h2 : (y 2).val = l.val) (i j : Fin 6144)
    (ei : i.val = 128 * (y 1).val + l.val) (ej : j.val = 128 * (y 1).val + (l.val + 128 - 64) % 128) :
    (∑ k : Fin 2560, (Hn x4 x5 (ix2 r k) : EReal) * x6 (ix2 k i)) * x7 (ix2 0 i) * Cn x2 x3 (ix2 r l) +
      (∑ k : Fin 2560, (Hn x4 x5 (ix2 r k) : EReal) * x6 (ix2 k j)) * x7 (ix2 0 j) * Sn x2 x3 (ix2 r l) =
    (Qn x2 x3 x4 x5 x6 x7 y : EReal) := by
  obtain rfl : y 0 = r := Fin.ext h0
  obtain rfl : y 2 = l := Fin.ext h2
  exact rot x2 x3 x4 x5 x6 x7 _ _ _ (by have : (y 1).val < 32 := (y 1).isLt; omega) i j ei ej

/-- A rotated key before its code is taken. -/
theorem rotK (y : S512x8x128.Idx) (r : Fin 512) (l : Fin 128) (h0 : (y 0).val = r.val) (h2 : (y 2).val = l.val) (i j : Fin 6144)
    (ei : i.val = 4096 + 128 * (y 1).val + l.val) (ej : j.val = 4096 + 128 * (y 1).val + (l.val + 128 - 64) % 128) :
    (∑ k : Fin 2560, (Hn x4 x5 (ix2 r k) : EReal) * x6 (ix2 k i)) * x7 (ix2 0 i) * Cn x2 x3 (ix2 r l) +
      (∑ k : Fin 2560, (Hn x4 x5 (ix2 r k) : EReal) * x6 (ix2 k j)) * x7 (ix2 0 j) * Sn x2 x3 (ix2 r l) =
    Kr x2 x3 x4 x5 x6 x7 y := by
  obtain rfl : y 0 = r := Fin.ext h0
  obtain rfl : y 2 = l := Fin.ext h2
  exact (rot x2 x3 x4 x5 x6 x7 (y 0) (y 2) (4096 + 128 * (y 1).val) (by have : (y 1).val < 8 := (y 1).isLt; omega) i j ei ej).trans
    (by simp only [Nat.add_assoc]; rfl)

/-- A value before its code is taken. -/
theorem rotV (y : S512x8x128.Idx) (r : Fin 512) (h0 : (y 0).val = r.val) (i : Fin 6144) (ei : i.val = 5120 + (128 * (y 1).val + (y 2).val)) :
    (∑ k : Fin 2560, (Hn x4 x5 (ix2 r k) : EReal) * x6 (ix2 k i)) * x7 (ix2 0 i) = Vr x4 x5 x6 x7 y := by
  obtain rfl : y 0 = r := Fin.ext h0
  have hi : 5120 + (128 * (y 1).val + (y 2).val) < 6144 := ei ▸ i.isLt
  obtain rfl : i = ⟨_, hi⟩ := Fin.ext ei
  rfl

/-- A head's codes as the kernel takes them: at each place, the code of the head's value there. -/
theorem code_at (X : FVec Ideal S512x128 .f32) (s s' e : EReal) (j : S512x128.Idx) {hb} {K : EReal} (hK : K = Spec.code e s')
    (hs : s = s') (he : X j = e) :
    (truncf .fp8e4m3 (minimumf (broadcast S512x128 (FloatOps.ofBits (F := Ideal) .f32 0x43E00000#32))
      (maximumf (broadcast S512x128 (FloatOps.ofBits (F := Ideal) .f32 0xC3E00000#32)) (divf X (broadcast S512x128 s)))) hb : FVec Ideal S512x128 .fp8e4m3) j = K := by
  subst hK hs he
  rfl

end block

theorem first_S1 (h) : (Shape.Idx.first h : S1.Idx) = ix1 0 := by
  funext a; fin_cases a; rfl

/-- Both branches of a choice over its proof equal to one thing: the choice is that thing. -/
theorem dite_both {p : Prop} [Decidable p] {a : p → EReal} {b : ¬p → EReal} {e : EReal} (h : ∀ x, a x = e) (h' : ∀ x, b x = e) :
    (if x : p then a x else b x) = e := by
  split_ifs with hp
  · exact h hp
  · exact h' hp

/-- Both branches of a choice equal to one thing: the choice is that thing. -/
theorem ite_both {p : Prop} [Decidable p] {a b e : EReal} (h : p → a = e) (h' : ¬p → b = e) : (if p then a else b) = e := by
  split_ifs with hp
  · exact h hp
  · exact h' hp

end Cert.QkvIdeal.Block
-- ==== Proof.QkvWindows.lean ====
/-
  What the kernel's windows hold at a point, in the arguments' own terms, and what the point's blocks are made of.
-/
module

public import proofs.«01_k».proof.Proof.QkvSpec
public import proofs.«01_k».proof.Proof.QkvBlock

@[expose] public section

set_option maxRecDepth 16384

noncomputable section

namespace Cert.QkvIdeal.Array

open Cert.QkvIdeal Cert.QkvIdeal.Gen Cert.QkvIdeal.Block Idealize.ShloMosaic Idealize.ShloMosaic.TcCoe Idealize.SL.Sem
open Idealize.ShloMosaic.Pipeline (Dat)

variable (m : (ℓ : Loc nD τ sig) → Buf (Elt Ideal) ℓ)

/-- Which block each window takes at a point. -/
theorem idx : ∀ t : Fin cfg0.N, win0_0.index t = ![0] ∧ win0_1.index t = ![0] ∧ win0_2.index t = ![t.val, 0, 0] ∧
    win0_3.index t = ![0, 0] ∧ win0_4.index t = ![t.val, 0] ∧ win0_5.index t = ![0, 0] ∧ win0_6.index t = ![0, 0] ∧
    win0_7.index t = ![0, 0] ∧ win0_8.index t = ![t.val, 0, 0] ∧ win0_9.index t = ![t.val, 0, 0] ∧ win0_10.index t = ![t.val, 0, 0] :=
  (by decide +kernel : ∀ t : Fin grid0.N, _)

variable (c : Dev nD)

/-- Row `r` of block `t` among all rows. -/
abbrev row (t : Fin cfg0.N) (r : Fin 512) : Fin 5120 := ⟨512 * t.val + r.val, by have : t.val < 10 := t.isLt; omega⟩

/-- A table laid twice in a row, read at `n`: the table's entry at `n` modulo its length. -/
theorem twice (f : ℕ → EReal) {n l : ℕ} (e : n = l) (hl : l < 128) : (if h : n < 64 then f n else f (n - 64)) = f (l % 64) := by
  subst e
  split_ifs with h
  · rw [Nat.mod_eq_of_lt h]
  · rw [show n % 64 = n - 64 by omega]

/-- The frequencies a point takes, one head wide: each of the 64 twice. -/
theorem freq (t : Fin cfg0.N) (l : Fin 128) : (iblk m c 3 t : Vec Ideal S1x128 .f32) (ix2 0 l) = Spec.invFreq (ix1 ⟨l.val % 64, by omega⟩) := by
  obtain ⟨h0, h1, h2, h3, h4, h5, h6, h7, h8, h9, h10⟩ := idx t
  unfold iblk
  blk_simp [h3]
  entry_read
  unfold Spec.invFreq
  pointwise
  refine twice (fun n => Ideal.pow (Ideal.ofBits .f32 1223959552#32) (Ideal.div (-(Ideal.ofBits .f32 1073741824#32 *
    FloatOps.sitofp (F := Ideal) .f32 (BitVec.ofNat 32 n))) (Ideal.ofBits .f32 1124073472#32))) ?_ l.isLt
  blk_simp [h3]

/-- A row's position, as a point takes it. -/
theorem pos (t : Fin cfg0.N) (r : Fin 512) : (iblk m c 2 t : Vec Ideal S1x1x512 .i32) (ix3 0 0 r) = m ((c : Thread nD τ).loc main_arg1) (ix1 (row t r)) := by
  obtain ⟨h0, h1, h2, h3, h4, h5, h6, h7, h8, h9, h10⟩ := idx t
  blk_point [iblk, V, h2]

theorem rows (t : Fin cfg0.N) (r : Fin 512) (k : Fin 2560) : (iblk m c 4 t : Vec Ideal S512x2560 .bf16) (ix2 r k) = m ((c : Thread nD τ).loc main_arg0) (ix2 (row t r) k) := by
  obtain ⟨h0, h1, h2, h3, h4, h5, h6, h7, h8, h9, h10⟩ := idx t
  blk_point [iblk, V, h4]

theorem gain (t : Fin cfg0.N) (k : Fin 2560) : (iblk m c 5 t : Vec Ideal S1x2560 .f32) (ix2 0 k) = m ((c : Thread nD τ).loc main_arg2) (ix1 k) := by
  obtain ⟨h0, h1, h2, h3, h4, h5, h6, h7, h8, h9, h10⟩ := idx t
  blk_point [iblk, V, h5]

theorem weights (t : Fin cfg0.N) (k : Fin 2560) (j : Fin 6144) : (iblk m c 6 t : Vec Ideal S2560x6144 .fp8e4m3) (ix2 k j) = m ((c : Thread nD τ).loc main_arg3) (ix2 k j) := by
  obtain ⟨h0, h1, h2, h3, h4, h5, h6, h7, h8, h9, h10⟩ := idx t
  blk_point [iblk, V, h6]

theorem scales (t : Fin cfg0.N) (j : Fin 6144) : (iblk m c 7 t : Vec Ideal S1x6144 .f32) (ix2 0 j) = m ((c : Thread nD τ).loc main_arg4) (ix1 j) := by
  obtain ⟨h0, h1, h2, h3, h4, h5, h6, h7, h8, h9, h10⟩ := idx t
  blk_point [iblk, V, h7]

theorem kScale (t : Fin cfg0.N) : (iblk m c 0 t : Vec Ideal S1 .f32) (ix1 0) = m ((c : Thread nD τ).loc main_arg5) (ix1 0) := by
  obtain ⟨h0, h1, h2, h3, h4, h5, h6, h7, h8, h9, h10⟩ := idx t
  blk_point [iblk, V, h0]

theorem vScale (t : Fin cfg0.N) : (iblk m c 1 t : Vec Ideal S1 .f32) (ix1 0) = m ((c : Thread nD τ).loc main_arg6) (ix1 0) := by
  obtain ⟨h0, h1, h2, h3, h4, h5, h6, h7, h8, h9, h10⟩ := idx t
  blk_point [iblk, V, h1]

/-- A block's scaled product is the arguments', at the rows of the block. -/
theorem proj_block (t : Fin cfg0.N) (r : Fin 512) (n : Fin 6144) : Pn (iblk m c 4 t) (iblk m c 5 t) (iblk m c 6 t) (iblk m c 7 t) r n =
    Spec.qkv (m ((c : Thread nD τ).loc main_arg0)) (m ((c : Thread nD τ).loc main_arg2)) (m ((c : Thread nD τ).loc main_arg3))
      (m ((c : Thread nD τ).loc main_arg4)) (row t r) n := by
  unfold Pn Spec.qkv
  simp only [rows, gain, weights, scales]

/-- A block's angles are the arguments', at the rows of the block. -/
theorem angle_block (t : Fin cfg0.N) (r : Fin 512) :
    An (iblk m c 2 t) (iblk m c 3 t) r = Spec.angle (m ((c : Thread nD τ).loc main_arg1) (ix1 (row t r))) := by
  funext l
  unfold An Spec.angle
  rw [pos, freq]

end Cert.QkvIdeal.Array
-- ==== Proof.QkvOut.lean ====
module

public import proofs.«01_k».proof.Proof.QkvBlock

/-! What a point leaves in the first output block: sixteen pairs of rotated heads, packed as words. -/

@[expose] public section

set_option maxRecDepth 16384

noncomputable section

namespace Cert.QkvIdeal.Block

open Cert.QkvIdeal Cert.QkvIdeal.Gen Idealize.ShloMosaic Idealize.ShloMosaic.TcCoe Idealize.SL.Sem

section run

variable (c : Dev nD) (i : grid0.Coords) (arg1 : Memref sig .tc .smem S1 .f32) (harg1 : arg1.IsWhole) (arg2 : Memref sig .tc .smem S1 .f32) (harg2 : arg2.IsWhole) (arg3 : Memref sig .tc .vmem S1x1x512 .i32) (harg3 : arg3.IsWhole)
  (arg4 : Memref sig .tc .vmem S1x128 .f32) (harg4 : arg4.IsWhole) (arg5 : Memref sig .tc .vmem S512x2560 .bf16) (harg5 : arg5.IsWhole) (arg6 : Memref sig .tc .vmem S1x2560 .f32) (harg6 : arg6.IsWhole)
  (arg7 : Memref sig .tc .vmem S2560x6144 .fp8e4m3) (harg7 : arg7.IsWhole) (arg8 : Memref sig .tc .vmem S1x6144 .f32) (harg8 : arg8.IsWhole) (arg9 : Memref sig .tc .vmem S512x32x128 .bf16) (harg9 : arg9.IsWhole)
  (arg10 : Memref sig .tc .vmem S512x8x128 .fp8e4m3) (harg10 : arg10.IsWhole) (arg11 : Memref sig .tc .vmem S512x8x128 .fp8e4m3) (harg11 : arg11.IsWhole) (arg12 : Memref sig .tc .vmem S512x2560 .bf16) (harg12 : arg12.IsWhole)
  (arg13 : Memref sig .tc .vmem S512x128 .f32) (harg13 : arg13.IsWhole) (arg14 : Memref sig .tc .vmem S512x128 .f32) (harg14 : arg14.IsWhole)
  (x0 : Vec Ideal S1 .f32) (x1 : Vec Ideal S1 .f32) (x2 : Vec Ideal S1x1x512 .i32) (x3 : Vec Ideal S1x128 .f32)
  (x4 : Vec Ideal S512x2560 .bf16) (x5 : Vec Ideal S1x2560 .f32) (x6 : Vec Ideal S2560x6144 .fp8e4m3) (x7 : Vec Ideal S1x6144 .f32)

/-- What a point leaves in the first output block: the rotated queries of its blocks. -/
theorem out8_eq (y : S512x32x128.Idx) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = Qn x2 x3 x4 x5 x6 x7 y := by
  unfold out0_A_8
  rw [View.read_writes_junk_eq_canon]
  unfold kernelRun0_A
  dsimp only
  canon_tiles z hz
  all_goals
    sl_unfold_run_values
    simp only [View.readAt_eq_ld, Memref.IsWhole.read_unread]
    pointwise [scratch_eq, cos_eq, sin_eq]
    refine ite_both (fun hp => ?_) (fun hp => ?_)
    all_goals
      refine rotQ x2 x3 x4 x5 x6 x7 y (z 0) (z 2) hz0 hz2 _ _ ?_ ?_
      all_goals
        dsimp only
        omega

end run

end Cert.QkvIdeal.Block
-- ==== Proof.QkvKeys.lean ====
module

public import proofs.«01_k».proof.Proof.QkvBlock

/-! What a point leaves in the second and third output blocks: four heads' codes stacked, twice, for the keys and for the values. -/

@[expose] public section

set_option maxRecDepth 16384

noncomputable section

namespace Cert.QkvIdeal.Block

open Cert.QkvIdeal Cert.QkvIdeal.Gen Idealize.ShloMosaic Idealize.ShloMosaic.TcCoe Idealize.SL.Sem

/-- Four heads' codes side by side: the stack is a thing where each head is, at its own place. -/
theorem stack (A B C D : FVec Ideal S512x128 .fp8e4m3) (e : EReal) (z : S512x4x128.Idx) {h0 h1 h2 h3} {h}
    (hA : (z 1).val = 0 → A (ix2 (z 0) (z 2)) = e) (hB : (z 1).val = 1 → B (ix2 (z 0) (z 2)) = e)
    (hC : (z 1).val = 2 → C (ix2 (z 0) (z 2)) = e) (hD : (z 1).val = 3 → D (ix2 (z 0) (z 2)) = e) :
    concatenate S512x4x128 1 [⟨S512x1x128, shapeCast S512x1x128 A h0⟩, ⟨S512x1x128, shapeCast S512x1x128 B h1⟩,
      ⟨S512x1x128, shapeCast S512x1x128 C h2⟩, ⟨S512x1x128, shapeCast S512x1x128 D h3⟩] h z = e := by
  have hz : (z 1).val < 4 := (z 1).isLt
  pointwise
  refine dite_both (fun hp => ?_) (fun hp => dite_both (fun hq => ?_) (fun hq => dite_both (fun hr => ?_) (fun hr => ?_)))
  · exact hA (by omega)
  · exact hB (by omega)
  · exact hC (by omega)
  · exact hD (by omega)

section run

variable (c : Dev nD) (i : grid0.Coords) (arg1 : Memref sig .tc .smem S1 .f32) (harg1 : arg1.IsWhole) (arg2 : Memref sig .tc .smem S1 .f32) (harg2 : arg2.IsWhole) (arg3 : Memref sig .tc .vmem S1x1x512 .i32) (harg3 : arg3.IsWhole)
  (arg4 : Memref sig .tc .vmem S1x128 .f32) (harg4 : arg4.IsWhole) (arg5 : Memref sig .tc .vmem S512x2560 .bf16) (harg5 : arg5.IsWhole) (arg6 : Memref sig .tc .vmem S1x2560 .f32) (harg6 : arg6.IsWhole)
  (arg7 : Memref sig .tc .vmem S2560x6144 .fp8e4m3) (harg7 : arg7.IsWhole) (arg8 : Memref sig .tc .vmem S1x6144 .f32) (harg8 : arg8.IsWhole) (arg9 : Memref sig .tc .vmem S512x32x128 .bf16) (harg9 : arg9.IsWhole)
  (arg10 : Memref sig .tc .vmem S512x8x128 .fp8e4m3) (harg10 : arg10.IsWhole) (arg11 : Memref sig .tc .vmem S512x8x128 .fp8e4m3) (harg11 : arg11.IsWhole) (arg12 : Memref sig .tc .vmem S512x2560 .bf16) (harg12 : arg12.IsWhole)
  (arg13 : Memref sig .tc .vmem S512x128 .f32) (harg13 : arg13.IsWhole) (arg14 : Memref sig .tc .vmem S512x128 .f32) (harg14 : arg14.IsWhole)
  (x0 : Vec Ideal S1 .f32) (x1 : Vec Ideal S1 .f32) (x2 : Vec Ideal S1x1x512 .i32) (x3 : Vec Ideal S1x128 .f32)
  (x4 : Vec Ideal S512x2560 .bf16) (x5 : Vec Ideal S1x2560 .f32) (x6 : Vec Ideal S2560x6144 .fp8e4m3) (x7 : Vec Ideal S1x6144 .f32)

/-- What a point leaves in the second output block: the codes of the rotated keys of its blocks. -/
theorem out9_eq (y : S512x8x128.Idx) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = Kn x2 x3 x4 x5 x6 x7 x0 y := by
  unfold out0_A_9
  rw [View.read_writes_junk_eq_canon]
  unfold kernelRun0_A
  dsimp only
  canon_tiles z hz
  all_goals
    sl_unfold_run_values
    dsimp only [k0_pay1, k0_pay165, k0_pay174, k0_pay180]
    refine stack _ _ _ _ _ z (fun hp => ?_) (fun hp => ?_) (fun hp => ?_) (fun hp => ?_)
    all_goals
      refine code_at _ _ (x0 (ix1 0)) (Kr x2 x3 x4 x5 x6 x7 y) _ rfl ?_ ?_
      · simp only [View.readAt_eq_ld, Memref.IsWhole.read_unread]
        pointwise [first_S1]
      simp only [View.readAt_eq_ld, Memref.IsWhole.read_unread]
      pointwise [scratch_eq, cos_eq, sin_eq]
      refine rotK x2 x3 x4 x5 x6 x7 y (z 0) (z 2) hz0 hz2 _ _ ?_ ?_
      all_goals
        dsimp only
        omega

/-- What a point leaves in the third output block: the codes of the values of its blocks. -/
theorem out10_eq (y : S512x8x128.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = Vn x4 x5 x6 x7 x1 y := by
  unfold out0_A_10
  rw [View.read_writes_junk_eq_canon]
  unfold kernelRun0_A
  dsimp only
  canon_tiles z hz
  all_goals
    sl_unfold_run_values
    dsimp only [k0_pay1, k0_pay165, k0_pay174, k0_pay180]
    refine stack _ _ _ _ _ z (fun hp => ?_) (fun hp => ?_) (fun hp => ?_) (fun hp => ?_)
    all_goals
      refine code_at _ _ (x1 (ix1 0)) (Vr x4 x5 x6 x7 y) _ rfl ?_ ?_
      · simp only [View.readAt_eq_ld, Memref.IsWhole.read_unread]
        pointwise [first_S1]
      simp only [View.readAt_eq_ld, Memref.IsWhole.read_unread]
      pointwise [scratch_eq, cos_eq, sin_eq]
      refine rotV x4 x5 x6 x7 y (z 0) hz0 _ ?_
      all_goals
        dsimp only
        omega

end run

end Cert.QkvIdeal.Block
-- ==== Proof.QkvArray.lean ====
/-
  What the kernel's three result arrays hold: each block of 512 rows is its point's, so the arrays are the specification's.
-/
module

public import proofs.«01_k».proof.Proof.QkvWindows
public import proofs.«01_k».proof.Proof.QkvOut
public import proofs.«01_k».proof.Proof.QkvKeys

@[expose] public section

set_option maxRecDepth 16384

noncomputable section

namespace Cert.QkvIdeal.Array

open Cert.QkvIdeal Cert.QkvIdeal.Gen Cert.QkvIdeal.Block Idealize.ShloMosaic Idealize.ShloMosaic.TcCoe Idealize.SL.Sem
open Idealize.ShloMosaic.Pipeline (Dat)

variable (m : (ℓ : Loc nD τ sig) → Buf (Elt Ideal) ℓ)

/-- One point leaves in the first output block the rotated queries of its blocks. -/
theorem out8 (c : Dev nD) (t : Fin cfg0.N) (y : S512x32x128.Idx) :
    (outsAt0 m c t).1 y = Qn (iblk m c 2 t) (iblk m c 3 t) (iblk m c 4 t) (iblk m c 5 t) (iblk m c 6 t) (iblk m c 7 t) y := by
  unfold outsAt0
  dsimp only
  rw [out8_eq]

/-- One point leaves in the second output block the codes of the rotated keys of its blocks. -/
theorem out9 (c : Dev nD) (t : Fin cfg0.N) (y : S512x8x128.Idx) :
    (outsAt0 m c t).2.1 y = Kn (iblk m c 2 t) (iblk m c 3 t) (iblk m c 4 t) (iblk m c 5 t) (iblk m c 6 t) (iblk m c 7 t) (iblk m c 0 t) y := by
  unfold outsAt0
  dsimp only
  rw [out9_eq]

/-- One point leaves in the third output block the codes of the values of its blocks. -/
theorem out10 (c : Dev nD) (t : Fin cfg0.N) (y : S512x8x128.Idx) :
    (outsAt0 m c t).2.2 y = Vn (iblk m c 4 t) (iblk m c 5 t) (iblk m c 6 t) (iblk m c 7 t) (iblk m c 1 t) y := by
  unfold outsAt0
  dsimp only
  rw [out10_eq]

variable (c : Dev nD)

/-- The rotated queries of the kernel's arguments. -/
abbrev q : Vec Ideal S5120x32x128 .bf16 := Spec.q (m ((c : Thread nD τ).loc main_arg0)) (m ((c : Thread nD τ).loc main_arg1))
    (m ((c : Thread nD τ).loc main_arg2)) (m ((c : Thread nD τ).loc main_arg3)) (m ((c : Thread nD τ).loc main_arg4))

/-- The codes of the rotated keys of the kernel's arguments. -/
abbrev k : Vec Ideal S5120x8x128 .fp8e4m3 := Spec.kCodes (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- The codes of the values of the kernel's arguments. -/
abbrev v : Vec Ideal S5120x8x128 .fp8e4m3 := Spec.vCodes (m ((c : Thread nD τ).loc main_arg0))
    (m ((c : Thread nD τ).loc main_arg2)) (m ((c : Thread nD τ).loc main_arg3)) (m ((c : Thread nD τ).loc main_arg4)) (m ((c : Thread nD τ).loc main_arg6))

section blocks

variable (x2 : Vec Ideal S1x1x512 .i32) (x3 : Vec Ideal S1x128 .f32) (x4 : Vec Ideal S512x2560 .bf16) (x5 : Vec Ideal S1x2560 .f32)
  (x6 : Vec Ideal S2560x6144 .fp8e4m3) (x7 : Vec Ideal S1x6144 .f32) (sc : Vec Ideal S1 .f32)
  (X : Vec Ideal S5120x2560 .bf16) (p : Vec Ideal S5120 .i32) (g : Vec Ideal S2560 .f32)
  (w : Vec Ideal S2560x6144 .fp8e4m3) (s : Vec Ideal S6144 .f32) (sc' : Vec Ideal S1 .f32) (t : Fin cfg0.N)
  (hP : ∀ r n, Pn x4 x5 x6 x7 r n = Spec.qkv X g w s (row t r) n) (hA : ∀ r, An x2 x3 r = Spec.angle (p (ix1 (row t r))))
  (hs : sc (ix1 0) = sc' (ix1 0))

include hP hA in
/-- A block's rotated queries are the specification's, its products and angles being so. -/
theorem q_of (y : S512x32x128.Idx) : Qn x2 x3 x4 x5 x6 x7 y = Spec.q X p g w s (ix3 (row t (y 0)) (y 1) (y 2)) := by
  unfold Qn Spec.q
  exact congrArg₂ (fun T A => Spec.rope T A (y 2)) (funext fun l => hP (y 0) _) (hA (y 0))

include hP hA hs in
/-- A block's codes of the rotated keys are the specification's, its products and angles being so. -/
theorem k_of (y : S512x8x128.Idx) : Kn x2 x3 x4 x5 x6 x7 sc y = Spec.kCodes X p g w s sc' (ix3 (row t (y 0)) (y 1) (y 2)) := by
  unfold Kn Kr Spec.kCodes
  exact congrArg₂ Spec.code (congrArg₂ (fun T A => Spec.rope T A (y 2)) (funext fun l => hP (y 0) _) (hA (y 0))) hs

include hP hs in
/-- A block's codes of the values are the specification's, its products being so. -/
theorem v_of (y : S512x8x128.Idx) : Vn x4 x5 x6 x7 sc y = Spec.vCodes X g w s sc' (ix3 (row t (y 0)) (y 1) (y 2)) := by
  unfold Vn Vr Spec.vCodes
  exact congrArg₂ Spec.code (hP (y 0) _) hs

end blocks

/-- A block's rotated queries are the specification's, at the rows of the block. -/
theorem q_block (t : Fin cfg0.N) (y : S512x32x128.Idx) :
    Qn (iblk m c 2 t) (iblk m c 3 t) (iblk m c 4 t) (iblk m c 5 t) (iblk m c 6 t) (iblk m c 7 t) y = q m c (ix3 (row t (y 0)) (y 1) (y 2)) :=
  q_of _ _ _ _ _ _ _ _ _ _ _ t (proj_block m c t) (angle_block m c t) y

/-- A block's codes of the rotated keys are the specification's, at the rows of the block. -/
theorem k_block (t : Fin cfg0.N) (y : S512x8x128.Idx) :
    Kn (iblk m c 2 t) (iblk m c 3 t) (iblk m c 4 t) (iblk m c 5 t) (iblk m c 6 t) (iblk m c 7 t) (iblk m c 0 t) y = k m c (ix3 (row t (y 0)) (y 1) (y 2)) :=
  k_of _ _ _ _ _ _ _ _ _ _ _ _ _ t (proj_block m c t) (angle_block m c t) (kScale m c t) y

/-- A block's codes of the values are the specification's, at the rows of the block. -/
theorem v_block (t : Fin cfg0.N) (y : S512x8x128.Idx) :
    Vn (iblk m c 4 t) (iblk m c 5 t) (iblk m c 6 t) (iblk m c 7 t) (iblk m c 1 t) y = v m c (ix3 (row t (y 0)) (y 1) (y 2)) :=
  v_of _ _ _ _ _ _ _ _ _ _ t (proj_block m c t) (vScale m c t) y

/-- The first result array: the rotated queries. -/
theorem arr8 : (dats m 0 c).arrAt 8 cfg0.N = q m c := by
  refine (dats m 0 c).arrAt_eq_of_covers 8 _ (by decide +kernel) fun t _ y => ?_
  obtain ⟨h0, h1, h2, h3, h4, h5, h6, h7, h8, h9, h10⟩ := idx t
  blk_simp [h8]
  rw [after0_8]
  refine (out8 m c t y).trans ((q_block m c t y).trans (congrArg (q m c) ?_))
  blk_ext [h8]

/-- The second result array: the codes of the rotated keys. -/
theorem arr9 : (dats m 0 c).arrAt 9 cfg0.N = k m c := by
  refine (dats m 0 c).arrAt_eq_of_covers 9 _ (by decide +kernel) fun t _ y => ?_
  obtain ⟨h0, h1, h2, h3, h4, h5, h6, h7, h8, h9, h10⟩ := idx t
  blk_simp [h9]
  rw [after0_9]
  refine (out9 m c t y).trans ((k_block m c t y).trans (congrArg (k m c) ?_))
  blk_ext [h9]

/-- The third result array: the codes of the values. -/
theorem arr10 : (dats m 0 c).arrAt 10 cfg0.N = v m c := by
  refine (dats m 0 c).arrAt_eq_of_covers 10 _ (by decide +kernel) fun t _ y => ?_
  obtain ⟨h0, h1, h2, h3, h4, h5, h6, h7, h8, h9, h10⟩ := idx t
  blk_simp [h10]
  rw [after0_10]
  refine (out10 m c t y).trans ((v_block m c t y).trans (congrArg (v m c) ?_))
  blk_ext [h10]

end Cert.QkvIdeal.Array
-- ==== Proof.QkvReference.lean ====
module

public import proofs.«01_k».proof.Proof.QkvSpec
public import proofs.«01_k».proof.Proof.Gen.QkvRefIdeal.Value
public import Idealize.ShloMosaic.Lib.Pipeline.ReadBack

/-! What the reference's three result arrays hold: the specification, computed on whole arrays. -/

@[expose] public section

set_option maxRecDepth 16384

noncomputable section

namespace Cert.QkvRefIdeal.Array

open Cert.QkvRefIdeal Cert.QkvRefIdeal.Gen Idealize.ShloMosaic Idealize.ShloMosaic.TcCoe Idealize.SL.Sem
open Idealize.ShloMosaic.Pipeline (Dat)
open Cert.QkvIdeal (Spec.inv Spec.proj Spec.rope Spec.code Spec.invFreq Spec.angle Spec.qkv Spec.q Spec.kCodes Spec.vCodes)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0] ∧ win0_7.index t = ![0] ∧
    win0_8.index t = ![0, 0, 0] ∧ win0_9.index t = ![0, 0, 0] ∧ win0_10.index t = ![0, 0, 0] :=
  (by decide +kernel : ∀ t : Fin grid0.N, _)

theorem two560 : Ideal.ofBits .f32 0x45200000#32 = ((2560 : ℝ) : EReal) := by
  simp [Ideal.ofBits, Ideal.ieee, -EReal.coe_mul]
  norm_num

section payloads

variable (X : Vec Ideal S5120x2560 .bf16) (G : Vec Ideal S1x2560 .f32) (W : Vec Ideal S2560x6144 .fp8e4m3) (S : Vec Ideal S1x6144 .f32)
  (P : Vec Ideal S5120x1 .i32) (Fr : Vec Ideal S1x64 .f32)

/-- Row `r`, column `j` of the scaled product, of whatever arrays it is made. -/
abbrev PR (r : Fin 5120) (j : Fin 6144) : EReal :=
  Spec.proj (fun k => X (ix2 r k)) (fun k => G (ix2 0 k)) (fun k j => W (ix2 k j)) (fun j => S (ix2 0 j)) j

theorem pay1 (r : Fin 5120) (j : Fin 6144) : (k0_pay1 X G W S) (ix2 r j) = PR X G W S r j := by
  pointwise [k0_pay1, PR, Spec.proj, Spec.inv, two560]
  rw [Ideal.div_coe (by norm_num : (2560:ℝ) ≠ 0)]

theorem pay2 (r : Fin 5120) (h : Fin 32) (l : Fin 128) : (k0_pay2 X G W S) (ix3 r h l) =
    PR X G W S r ⟨128 * h.val + l.val, by omega⟩ := by
  pointwise [k0_pay2]
  exact (pay1 X G W S ..).trans (congrArg (PR X G W S _) (by ext; simp; omega))

theorem pay3 (r : Fin 5120) (h : Fin 8) (l : Fin 128) : (k0_pay3 X G W S) (ix3 r h l) =
    PR X G W S r ⟨4096 + (128 * h.val + l.val), by omega⟩ := by
  pointwise [k0_pay3]
  exact (pay1 X G W S ..).trans (congrArg (PR X G W S _) (by ext; simp; omega))

theorem pay4 (r : Fin 5120) (h : Fin 8) (l : Fin 128) : (k0_pay4 X G W S) (ix3 r h l) =
    PR X G W S r ⟨5120 + (128 * h.val + l.val), by omega⟩ := by
  pointwise [k0_pay4]
  exact (pay1 X G W S ..).trans (congrArg (PR X G W S _) (by ext; simp; omega))

/-- The angles' cosines, one head wide. -/
theorem pay6 (r : Fin 5120) (l : Fin 128) : (k0_pay6 P Fr) (ix3 r 0 l) =
    Ideal.cos ((((P (ix2 r 0) : BitVec 32).toInt : ℝ) : EReal) * Fr (ix2 0 ⟨l.val % 64, by omega⟩)) := by
  pointwise [k0_pay6, k0_pay5]
  split_ifs with h
  · exact congrArg (fun i => Ideal.cos ((((P (ix2 r 0) : BitVec 32).toInt : ℝ) : EReal) * Fr (ix2 0 i)))
      (Fin.ext (by simp; omega))
  · exact congrArg (fun i => Ideal.cos ((((P (ix2 r 0) : BitVec 32).toInt : ℝ) : EReal) * Fr (ix2 0 i)))
      (Fin.ext (by simp; omega))
  · exact absurd rfl ‹_›

/-- The angles' sines, one head wide. -/
theorem pay7 (r : Fin 5120) (l : Fin 128) : (k0_pay7 P Fr) (ix3 r 0 l) =
    Ideal.sin ((((P (ix2 r 0) : BitVec 32).toInt : ℝ) : EReal) * Fr (ix2 0 ⟨l.val % 64, by omega⟩)) := by
  pointwise [k0_pay7, k0_pay5]
  split_ifs with h
  · exact congrArg (fun i => Ideal.sin ((((P (ix2 r 0) : BitVec 32).toInt : ℝ) : EReal) * Fr (ix2 0 i)))
      (Fin.ext (by simp; omega))
  · exact congrArg (fun i => Ideal.sin ((((P (ix2 r 0) : BitVec 32).toInt : ℝ) : EReal) * Fr (ix2 0 i)))
      (Fin.ext (by simp; omega))
  · exact absurd rfl ‹_›

/-- The query heads' rotation, of whatever arrays it is made. -/
theorem pay8 (T : FVec Ideal S5120x32x128 .f32) (C S : FVec Ideal S5120x1x128 .f32) (r : Fin 5120) (h : Fin 32) (l : Fin 128) :
   (k0_pay8 T C S) (ix3 r h l) = T (ix3 r h l) * C (ix3 r 0 l) +
    (if h' : l.val < 64 then -(T (ix3 r h ⟨l.val + 64, by omega⟩)) else T (ix3 r h ⟨l.val - 64, by omega⟩)) * S (ix3 r 0 l) := by
  pointwise [k0_pay8]
  split_ifs with h'
  · rw [zero_sub]
    exact congrArg (fun i => T (ix3 r h l) * C (ix3 r 0 l) + -(T (ix3 r h i)) * S (ix3 r 0 l)) (Fin.ext (by simp; omega))
  · rfl
  · exact absurd rfl ‹_›

/-- The key heads' rotation and codes, of whatever arrays they are made. -/
theorem pay9 (T : FVec Ideal S5120x8x128 .f32) (C S : FVec Ideal S5120x1x128 .f32) (sc : EReal) (r : Fin 5120) (h : Fin 8) (l : Fin 128) :
   (k0_pay9 T C S sc) (ix3 r h l) = Spec.code (T (ix3 r h l) * C (ix3 r 0 l) +
    (if h' : l.val < 64 then -(T (ix3 r h ⟨l.val + 64, by omega⟩)) else T (ix3 r h ⟨l.val - 64, by omega⟩)) * S (ix3 r 0 l)) sc := by
  pointwise [k0_pay9]
  unfold Spec.code
  split_ifs with h'
  · rw [zero_sub]
    exact congrArg (fun i => min (Ideal.ofBits .f32 0x43E00000#32) (max (Ideal.ofBits .f32 0xC3E00000#32)
      (Ideal.div (T (ix3 r h l) * C (ix3 r 0 l) + -(T (ix3 r h i)) * S (ix3 r 0 l)) sc))) (Fin.ext (by simp; omega))
  · rfl
  · exact absurd rfl ‹_›

/-- The value heads' codes, of whatever array they are made. -/
theorem pay10 (T : FVec Ideal S5120x8x128 .f32) (sc : EReal) (r : Fin 5120) (h : Fin 8) (l : Fin 128) :
   (k0_pay10 T sc) (ix3 r h l) = Spec.code (T (ix3 r h l)) sc := by
  pointwise [k0_pay10, Spec.code]

end payloads

theorem first_S1 (h) : (Shape.Idx.first h : S1.Idx) = ix1 0 := by
  funext a; fin_cases a; rfl

/-- The frequencies the reference takes are the specification's. -/
theorem freq (i : Fin 64) : (iblk m c 1 t0_0 : Vec Ideal S1x64 .f32) (ix2 0 i) = Spec.invFreq (ix1 i) := by
  obtain ⟨h0, h1, h2, h3, h4, h5, h6, h7, h8, h9, h10⟩ := idx t0_0
  unfold iblk
  blk_simp [h1]
  entry_read
  unfold Spec.invFreq
  pointwise
  refine congrArg (fun n => Ideal.pow (Ideal.ofBits .f32 1223959552#32) (Ideal.div (-(Ideal.ofBits .f32 1073741824#32 *
    (((BitVec.ofNat 32 n).toInt : ℝ) : EReal))) (Ideal.ofBits .f32 1124073472#32))) ?_
  blk_simp [h1]

theorem pos (r : Fin 5120) : (iblk m c 0 t0_0 : Vec Ideal S5120x1 .i32) (ix2 r 0) = m ((c : Thread nD τ).loc main_arg1) (ix1 r) := by
  obtain ⟨h0, h1, h2, h3, h4, h5, h6, h7, h8, h9, h10⟩ := idx t0_0
  blk_point [iblk, V, h0]

theorem rows (r : Fin 5120) (k : Fin 2560) : (iblk m c 2 t0_0 : Vec Ideal S5120x2560 .bf16) (ix2 r k) = m ((c : Thread nD τ).loc main_arg0) (ix2 r k) := by
  obtain ⟨h0, h1, h2, h3, h4, h5, h6, h7, h8, h9, h10⟩ := idx t0_0
  blk_point [iblk, V, h2]

theorem gain (k : Fin 2560) : (iblk m c 3 t0_0 : Vec Ideal S1x2560 .f32) (ix2 0 k) = m ((c : Thread nD τ).loc main_arg2) (ix1 k) := by
  obtain ⟨h0, h1, h2, h3, h4, h5, h6, h7, h8, h9, h10⟩ := idx t0_0
  blk_point [iblk, V, h3]

theorem weights (k : Fin 2560) (j : Fin 6144) : (iblk m c 4 t0_0 : Vec Ideal S2560x6144 .fp8e4m3) (ix2 k j) = m ((c : Thread nD τ).loc main_arg3) (ix2 k j) := by
  obtain ⟨h0, h1, h2, h3, h4, h5, h6, h7, h8, h9, h10⟩ := idx t0_0
  blk_point [iblk, V, h4]

theorem scales (j : Fin 6144) : (iblk m c 5 t0_0 : Vec Ideal S1x6144 .f32) (ix2 0 j) = m ((c : Thread nD τ).loc main_arg4) (ix1 j) := by
  obtain ⟨h0, h1, h2, h3, h4, h5, h6, h7, h8, h9, h10⟩ := idx t0_0
  blk_point [iblk, V, h5]

theorem kScale : (iblk m c 6 t0_0 : Vec Ideal S1 .f32) (ix1 0) = m ((c : Thread nD τ).loc main_arg5) (ix1 0) := by
  obtain ⟨h0, h1, h2, h3, h4, h5, h6, h7, h8, h9, h10⟩ := idx t0_0
  blk_point [iblk, V, h6]

theorem vScale : (iblk m c 7 t0_0 : Vec Ideal S1 .f32) (ix1 0) = m ((c : Thread nD τ).loc main_arg6) (ix1 0) := by
  obtain ⟨h0, h1, h2, h3, h4, h5, h6, h7, h8, h9, h10⟩ := idx t0_0
  blk_point [iblk, V, h7]

/-- The scaled product of the arguments' blocks is the arguments'. -/
theorem proj_eq (r : Fin 5120) (j : Fin 6144) : PR (iblk m c 2 t0_0) (iblk m c 3 t0_0) (iblk m c 4 t0_0) (iblk m c 5 t0_0) r j =
    Spec.qkv (m ((c : Thread nD τ).loc main_arg0)) (m ((c : Thread nD τ).loc main_arg2)) (m ((c : Thread nD τ).loc main_arg3))
      (m ((c : Thread nD τ).loc main_arg4)) r j := by
  unfold PR Spec.qkv
  simp only [rows, gain, weights, scales]

/-- The first result array: the rotated queries. -/
theorem arr8 : (dats m 0 c).arrAt 8 cfg0.N = Spec.q (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_after_last 8 t0_0 (by decide +kernel) _ fun j => ?_
  obtain ⟨a, b, d, rfl⟩ : ∃ a b d, j = ix3 a b d := ⟨_, _, _, eq_ix3 j⟩
  blk_simp
  rw [after0_8]
  show (outsAt0 m c t0_0).1 (ix3 a b d) = _
  unfold outsAt0
  frame_out
  simp only [read_unread_whole]
  rw [pay8, pay6, pay7]
  simp only [pay2, proj_eq, pos, freq]
  rfl

/-- The second result array: the codes of the rotated keys. -/
theorem arr9 : (dats m 0 c).arrAt 9 cfg0.N = Spec.kCodes (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_0 (by decide +kernel) _ fun j => ?_
  obtain ⟨a, b, d, rfl⟩ : ∃ a b d, j = ix3 a b d := ⟨_, _, _, eq_ix3 j⟩
  blk_simp
  rw [after0_9]
  frame_out
  simp only [read_unread_whole]
  rw [pay9, pay6, pay7]
  simp only [pay3, proj_eq, pos, freq, first_S1, kScale]
  rfl

/-- The third result array: the codes of the values. -/
theorem arr10 : (dats m 0 c).arrAt 10 cfg0.N = Spec.vCodes (m ((c : Thread nD τ).loc main_arg0)) (m ((c : Thread nD τ).loc main_arg2))
    (m ((c : Thread nD τ).loc main_arg3)) (m ((c : Thread nD τ).loc main_arg4)) (m ((c : Thread nD τ).loc main_arg6)) := by
  refine (dats m 0 c).arrAt_eq_of_after_last 10 t0_0 (by decide +kernel) _ fun j => ?_
  obtain ⟨a, b, d, rfl⟩ : ∃ a b d, j = ix3 a b d := ⟨_, _, _, eq_ix3 j⟩
  blk_simp
  rw [after0_10]
  frame_out
  simp only [read_unread_whole]
  rw [pay10]
  simp only [pay4, proj_eq, first_S1, vScale]
  rfl

end Cert.QkvRefIdeal.Array
-- ==== Proof.QkvClaims.lean ====
module

public import proofs.«01_k».proof.Defs
public import proofs.«01_k».proof.Proof.QkvArray
public import proofs.«01_k».proof.Proof.QkvReference
public import Idealize.ShloMosaic.Lib.Bf16Pair

/-! The two claims of the query, key and value projection: what the idealized program keeps of the printed one, and that it
    computes what the reference computes. -/

@[expose] public section

noncomputable section

namespace Cert.Proof.QkvClaims

open Idealize.ShloMosaic Idealize.ShloMosaic.TcCoe Idealize.SL.Sem

/-- The rewritten places: the named constant `1 / 2560`, and the pairs of bf16 heads packed as words. -/
theorem preserves : Cert.preserves_Qkv_QkvIdeal :=
  ⟨IdealRules.named_const.statement Cert.QkvIdeal.κ "inv_n" .f32 0x39CCCCCD#32 _ rfl,
    IdealRules.bf16_pair.packStatement Cert.QkvIdeal.S512x128,
    IdealRules.bf16_pair.statement Cert.QkvIdeal.S512x2x128 Cert.QkvIdeal.S512x1x128⟩

/-- Over the reals the kernel leaves the reference's three arrays: the rotated queries, the codes of the rotated keys and
    the codes of the values. -/
theorem algebraic : Cert.algebraic_QkvIdeal_QkvRefIdeal := by
  intro m ρ m' ρ' _ hagree
  refine ⟨fun c => Cert.QkvIdeal.Array.q m c, fun c => Cert.QkvIdeal.Array.k m c, fun c => Cert.QkvIdeal.Array.v m c,
    (θ_run Cert.QkvIdeal.defs _ _).mono (fun _ h c => ⟨(h c).1.trans (Cert.QkvIdeal.Array.arr8 m c),
      (h c).2.1.trans (Cert.QkvIdeal.Array.arr9 m c), (h c).2.2.1.trans (Cert.QkvIdeal.Array.arr10 m c), (h c).2.2.2⟩)
      (Cert.QkvIdeal.Value.run_blocks m ρ), ?_⟩
  refine (θ_run Cert.QkvRefIdeal.defs _ _).mono
    (fun _ h c => ⟨(h c).1.trans ?_, (h c).2.1.trans ?_, (h c).2.2.1.trans ?_, (h c).2.2.2⟩) (Cert.QkvRefIdeal.Value.run_blocks m' ρ')
  · obtain ⟨h0, h1, h2, h3, h4, h5, h6⟩ := hagree c
    rw [Cert.QkvRefIdeal.Array.arr8, h0, h1, h2, h3, h4]
  · obtain ⟨h0, h1, h2, h3, h4, h5, h6⟩ := hagree c
    rw [Cert.QkvRefIdeal.Array.arr9, h0, h1, h2, h3, h4, h5]
  · obtain ⟨h0, h1, h2, h3, h4, h5, h6⟩ := hagree c
    rw [Cert.QkvRefIdeal.Array.arr10, h0, h2, h3, h4, h6]

end Cert.Proof.QkvClaims
-- ==== Proof.OProjSpec.lean ====
module

public import proofs.«01_k».proof.OProjIdeal
public import Idealize.ShloMosaic.Lib.Pipeline.ValueKit
public import Idealize.ShloMosaic.Lib.Pointwise

/-! The layer's middle section over the reals: the attention output times `w_o`, scaled and added to the input, and the
    normalised rows made of it. Both programs are shown to leave these arrays. -/

@[expose] public section

noncomputable section

namespace Cert.OProjIdeal.Spec

open Cert.OProjIdeal Idealize.ShloMosaic

/-- `h_mid = x + (attn @ w_o) * s_o`, with the heads of `attn` side by side. -/
def hMid (a : Vec Ideal S5120x32x128 .bf16) (x : Vec Ideal S5120x2560 .bf16) (w : Vec Ideal S4096x2560 .fp8e4m3)
    (s : Vec Ideal S2560 .f32) : Vec Ideal S5120x2560 .bf16 := fun y =>
  (x y : EReal) +
    (∑ k : Fin 4096, (a (ix3 (y 0) ⟨k.val / 128, by have := k.isLt; omega⟩ ⟨k.val % 128, by omega⟩) : EReal) * w (ix2 k (y 1))) *
      s (ix1 (y 1))

/-- `h2 = h_mid * rsqrt(mean(h_mid²) + ε) * g`. -/
def h2 (a : Vec Ideal S5120x32x128 .bf16) (x : Vec Ideal S5120x2560 .bf16) (w : Vec Ideal S4096x2560 .fp8e4m3)
    (s g : Vec Ideal S2560 .f32) : Vec Ideal S5120x2560 .bf16 := fun y =>
  hMid a x w s y *
    Ideal.rsqrt ((∑ k : Fin 2560, hMid a x w s (ix2 (y 0) k) * hMid a x w s (ix2 (y 0) k)) * ((1 / 2560 : ℝ) : EReal) +
      Ideal.ofBits .f32 925353388#32) * g (ix1 (y 1))

end Cert.OProjIdeal.Spec
-- ==== Proof.OProjBlock.lean ====
/-
  What one grid point of the output projection leaves in its two output blocks, over real numbers: the residual rows
  `HM` and the normalised rows `H2`, as functions of the point's input blocks.
-/
module

public import proofs.«01_k».proof.Proof.Gen.OProjIdeal.Value
public import Idealize.ShloMosaic.Lib.Pipeline.ValueKit
public import Idealize.ShloMosaic.Lib.Pointwise

@[expose] public section

set_option maxRecDepth 16384

noncomputable section

namespace Cert.OProjIdeal.Block

open Cert.OProjIdeal Cert.OProjIdeal.Gen Idealize.ShloMosaic Idealize.ShloMosaic.TcCoe Idealize.SL.Sem
open Idealize.ShloMosaic.Pipeline (Dat)

variable (m : (ℓ : Loc nD τ sig) → Buf (Elt Ideal) ℓ)

/-- The block's attention rows with the 32 heads of 128 lanes side by side. -/
def A2 (x0 : Vec Ideal S512x32x128 .bf16) : Vec Ideal S512x4096 .bf16 := fun y =>
  x0 (ix3 (y 0) ⟨(y 1).val / 128, by have : (y 1).val < 4096 := (y 1).isLt; omega⟩
    ⟨(y 1).val % 128, by omega⟩)

/-- The block's residual rows: the input rows plus the scaled product. -/
def HM (x0 : Vec Ideal S512x32x128 .bf16) (x1 : Vec Ideal S512x2560 .bf16) (x2 : Vec Ideal S4096x2560 .fp8e4m3)
    (x3 : Vec Ideal S1x2560 .f32) : Vec Ideal S512x2560 .bf16 := fun y =>
  (x1 y : EReal) + (∑ k : Fin 4096, (A2 x0 (ix2 (y 0) k) : EReal) * x2 (ix2 k (y 1))) * x3 (ix2 0 (y 1))

/-- The normalised rows: the residual rows over the root of their mean square, times the gain. -/
def H2 (x0 : Vec Ideal S512x32x128 .bf16) (x1 : Vec Ideal S512x2560 .bf16) (x2 : Vec Ideal S4096x2560 .fp8e4m3)
    (x3 x4 : Vec Ideal S1x2560 .f32) : Vec Ideal S512x2560 .bf16 := fun y =>
  HM x0 x1 x2 x3 y * Ideal.rsqrt ((∑ k : Fin 2560, HM x0 x1 x2 x3 (ix2 (y 0) k) * HM x0 x1 x2 x3 (ix2 (y 0) k)) * ((1 / 2560 : ℝ) : EReal) +
    Ideal.ofBits .f32 925353388#32) * x4 (ix2 0 (y 1))

/-- One lane of the running sum over the first 2048 columns, 16 terms in the order the kernel adds them. -/
def lane16 (f : Fin 2560 → EReal) (x : Fin 128) : EReal :=
  f ⟨x.val, by have := x.isLt; omega⟩ + f ⟨128 + x.val, by have := x.isLt; omega⟩ + f ⟨256 + x.val, by have := x.isLt; omega⟩ + f ⟨384 + x.val, by have := x.isLt; omega⟩ +
      f ⟨512 + x.val, by have := x.isLt; omega⟩ + f ⟨512 + (128 + x.val), by have := x.isLt; omega⟩ + f ⟨512 + (256 + x.val), by have := x.isLt; omega⟩ + f ⟨512 + (384 + x.val), by have := x.isLt; omega⟩ +
      f ⟨1024 + x.val, by have := x.isLt; omega⟩ + f ⟨1024 + (128 + x.val), by have := x.isLt; omega⟩ + f ⟨1024 + (256 + x.val), by have := x.isLt; omega⟩ + f ⟨1024 + (384 + x.val), by have := x.isLt; omega⟩ +
      f ⟨1536 + x.val, by have := x.isLt; omega⟩ + f ⟨1536 + (128 + x.val), by have := x.isLt; omega⟩ + f ⟨1536 + (256 + x.val), by have := x.isLt; omega⟩ + f ⟨1536 + (384 + x.val), by have := x.isLt; omega⟩

/-- A sum over 2560 columns, taken as 128 lanes of 20 columns each. -/
theorem lane_sum (f : Fin 2560 → EReal) :
    ∑ x : Fin 128, (lane16 f x + f ⟨2048 + x.val, by have := x.isLt; omega⟩ + f ⟨2048 + (128 + x.val), by have := x.isLt; omega⟩ + f ⟨2048 + (256 + x.val), by have := x.isLt; omega⟩ + f ⟨2048 + (384 + x.val), by have := x.isLt; omega⟩) = ∑ k, f k := by
  obtain ⟨g, hg⟩ : ∃ g : ℕ → EReal, ∀ k, f k = g k.val := ⟨fun n => if h : n < 2560 then f ⟨n, h⟩ else 0, by simp⟩
  simp only [lane16, hg]
  refine Eq.trans ?_ (Fin.sum_univ_univ_mul_add 20 128 g)
  rw [Finset.sum_comm]
  refine Finset.sum_congr rfl fun x _ => ?_
  simp only [Fin.sum_univ_succ, Fin.sum_univ_zero, add_zero, ← add_assoc, Fin.val_succ, Fin.val_zero]
  norm_num

section run

variable (c : Dev nD) (arg1 : Memref sig .tc .vmem S512x32x128 .bf16) (h1 : arg1.IsWhole)
  (arg2 : Memref sig .tc .vmem S512x2560 .bf16) (h2 : arg2.IsWhole)
  (arg3 : Memref sig .tc .vmem S4096x2560 .fp8e4m3) (h3 : arg3.IsWhole)
  (arg4 : Memref sig .tc .vmem S1x2560 .f32) (h4 : arg4.IsWhole)
  (arg5 : Memref sig .tc .vmem S1x2560 .f32) (h5 : arg5.IsWhole)
  (arg6 : Memref sig .tc .vmem S512x2560 .bf16) (arg8 : Memref sig .tc .vmem S512x4096 .bf16)
  (x0 : Vec Ideal S512x32x128 .bf16) (x1 : Vec Ideal S512x2560 .bf16) (x2 : Vec Ideal S4096x2560 .fp8e4m3)
  (x3 : Vec Ideal S1x2560 .f32) (x4 : Vec Ideal S1x2560 .f32)

/-- The 32 stores into the scratch leave the heads side by side. -/
theorem scratch_pieces (y : S512x4096.Idx) : View.canon (kernelRun0_A.sl.HS0_32 (F := Ideal) c arg1 h1 x0) y = A2 x0 y := by
  unfold kernelRun0_A.sl.HS0_32
  canon_tiles z hz
  all_goals sl_unfold_run_names
  all_goals simp only [View.readAt_eq_ld, h1.read_unread]
  all_goals pointwise [k0_pay40, A2]
  all_goals blk_ext []

/-- The scratch, read whole after its 32 stores, holds the heads side by side. -/
theorem scratch_eq : kernelRun0_A.sl.v241 (F := Ideal) c arg1 h1 arg8 x0 = A2 x0 := by
  unfold kernelRun0_A.sl.v241
  rw [View.readCov_eq_canon']
  funext y
  refine (scratch_pieces c arg1 h1 x0 _).trans (congrArg (A2 x0) ?_)
  funext a
  apply Fin.ext
  fin_cases a <;> simp [Rect.idx_unit_val]

/-- Columns 0–511 of the residual rows, as they are squared. -/
theorem chunk0 (z : S512x512.Idx) : kernelRun0_A.sl.v253 (F := Ideal) c arg1 h1 arg2 h2 arg3 h3 arg4 h4 arg8 x0 x1 x2 x3 z =
    HM x0 x1 x2 x3 (ix2 (z 0) ⟨(z 1).val, by have : (z 1).val < 512 := (z 1).isLt; omega⟩) := by
  simp only [kernelRun0_A.sl.v253, kernelRun0_A.sl.v251, kernelRun0_A.sl.v250, kernelRun0_A.sl.v249,
    kernelRun0_A.sl.v247, kernelRun0_A.sl.v246, kernelRun0_A.sl.v245, kernelRun0_A.sl.v243, kernelRun0_A.sl.cst_68,
    scratch_eq, View.readAt_eq_ld, h2.read_unread, h3.read_unread, h4.read_unread]
  pointwise [HM]

/-- Columns 512–1023 of the residual rows, as they are squared. -/
theorem chunk1 (z : S512x512.Idx) : kernelRun0_A.sl.v275 (F := Ideal) c arg1 h1 arg2 h2 arg3 h3 arg4 h4 arg8 x0 x1 x2 x3 z =
    HM x0 x1 x2 x3 (ix2 (z 0) ⟨512 + (z 1).val, by have : (z 1).val < 512 := (z 1).isLt; omega⟩) := by
  simp only [kernelRun0_A.sl.v275, kernelRun0_A.sl.v273, kernelRun0_A.sl.v272, kernelRun0_A.sl.v271,
    kernelRun0_A.sl.v269, kernelRun0_A.sl.v268, kernelRun0_A.sl.v267, kernelRun0_A.sl.v265, kernelRun0_A.sl.cst_68,
    scratch_eq, View.readAt_eq_ld, h2.read_unread, h3.read_unread, h4.read_unread]
  pointwise [HM]

/-- Columns 1024–1535 of the residual rows, as they are squared. -/
theorem chunk2 (z : S512x512.Idx) : kernelRun0_A.sl.v297 (F := Ideal) c arg1 h1 arg2 h2 arg3 h3 arg4 h4 arg8 x0 x1 x2 x3 z =
    HM x0 x1 x2 x3 (ix2 (z 0) ⟨1024 + (z 1).val, by have : (z 1).val < 512 := (z 1).isLt; omega⟩) := by
  simp only [kernelRun0_A.sl.v297, kernelRun0_A.sl.v295, kernelRun0_A.sl.v294, kernelRun0_A.sl.v293,
    kernelRun0_A.sl.v291, kernelRun0_A.sl.v290, kernelRun0_A.sl.v289, kernelRun0_A.sl.v287, kernelRun0_A.sl.cst_68,
    scratch_eq, View.readAt_eq_ld, h2.read_unread, h3.read_unread, h4.read_unread]
  pointwise [HM]

/-- Columns 1536–2047 of the residual rows, as they are squared. -/
theorem chunk3 (z : S512x512.Idx) : kernelRun0_A.sl.v319 (F := Ideal) c arg1 h1 arg2 h2 arg3 h3 arg4 h4 arg8 x0 x1 x2 x3 z =
    HM x0 x1 x2 x3 (ix2 (z 0) ⟨1536 + (z 1).val, by have : (z 1).val < 512 := (z 1).isLt; omega⟩) := by
  simp only [kernelRun0_A.sl.v319, kernelRun0_A.sl.v317, kernelRun0_A.sl.v316, kernelRun0_A.sl.v315,
    kernelRun0_A.sl.v313, kernelRun0_A.sl.v312, kernelRun0_A.sl.v311, kernelRun0_A.sl.v309, kernelRun0_A.sl.cst_68,
    scratch_eq, View.readAt_eq_ld, h2.read_unread, h3.read_unread, h4.read_unread]
  pointwise [HM]

/-- The five stores into the first output block leave the residual rows. -/
theorem resid_pieces (y : S512x2560.Idx) :
    View.canon (kernelRun0_A.sl.H5_5 (F := Ideal) c arg1 h1 arg2 h2 arg3 h3 arg4 h4 arg8 x0 x1 x2 x3) y = HM x0 x1 x2 x3 y := by
  unfold kernelRun0_A.sl.H5_5
  canon_tiles z hz
  · simp only [scratch_eq, View.readAt_eq_ld, h2.read_unread, h3.read_unread, h4.read_unread]
    have hy : y = ix2 (z 0) ⟨2048 + (z 1).val, by have : (z 1).val < 512 := (z 1).isLt; omega⟩ := by
      rw [eq_ix2 y]
      blk_ext []
    rw [hy]
    pointwise [k0_pay50, HM]
  · exact (chunk3 c arg1 h1 arg2 h2 arg3 h3 arg4 h4 arg8 x0 x1 x2 x3 z).trans (by congr 1; blk_ext [])
  · exact (chunk2 c arg1 h1 arg2 h2 arg3 h3 arg4 h4 arg8 x0 x1 x2 x3 z).trans (by congr 1; blk_ext [])
  · exact (chunk1 c arg1 h1 arg2 h2 arg3 h3 arg4 h4 arg8 x0 x1 x2 x3 z).trans (by congr 1; blk_ext [])
  · exact (chunk0 c arg1 h1 arg2 h2 arg3 h3 arg4 h4 arg8 x0 x1 x2 x3 z).trans (by congr 1; blk_ext [])

/-- The residual rows, read back whole. -/
theorem resid_eq (arg6 : Memref sig .tc .vmem S512x2560 .bf16) :
    kernelRun0_A.sl.v358 (F := Ideal) c arg1 h1 arg2 h2 arg3 h3 arg4 h4 arg6 arg8 x0 x1 x2 x3 = HM x0 x1 x2 x3 := by
  unfold kernelRun0_A.sl.v358
  rw [View.readCov_eq_canon']
  funext y
  refine (resid_pieces c arg1 h1 arg2 h2 arg3 h3 arg4 h4 arg8 x0 x1 x2 x3 _).trans (congrArg (HM x0 x1 x2 x3) ?_)
  funext a
  apply Fin.ext
  fin_cases a <;> simp [Rect.idx_unit_val]

/-- Columns 2048–2559 of the residual rows, as they are stored and squared. -/
theorem chunk4 (z : S512x512.Idx) :
    k0_pay50 (F := Ideal) (A2 x0) (View.ld x2 (Rect.unit ![0, 2048] ![4096, 512] inb_S4096x2560_S4096x512_0_2048))
      (View.ld x3 (Rect.unit ![0, 2048] ![1, 512] inb_S1x2560_S1x512_0_2048))
      (View.ld x1 (Rect.unit ![0, 2048] ![512, 512] inb_S512x2560_S512x512_0_2048)) z =
    HM x0 x1 x2 x3 (ix2 (z 0) ⟨2048 + (z 1).val, by have : (z 1).val < 512 := (z 1).isLt; omega⟩) := by
  pointwise [k0_pay50, HM]

/-- The running sum of squares after the first 2048 columns, at one lane. -/
theorem lanes16 (z : S512x128.Idx) : kernelRun0_A.sl.v328 (F := Ideal) c arg1 h1 arg2 h2 arg3 h3 arg4 h4 arg8 x0 x1 x2 x3 z =
    lane16 (fun k => HM x0 x1 x2 x3 (ix2 (z 0) k) * HM x0 x1 x2 x3 (ix2 (z 0) k)) (z 1) := by
  simp only [kernelRun0_A.sl.v328, kernelRun0_A.sl.v327, kernelRun0_A.sl.v326, kernelRun0_A.sl.v325, kernelRun0_A.sl.v324, kernelRun0_A.sl.v323, kernelRun0_A.sl.v322, kernelRun0_A.sl.v321, kernelRun0_A.sl.v320, kernelRun0_A.sl.v306, kernelRun0_A.sl.v305, kernelRun0_A.sl.v304, kernelRun0_A.sl.v303, kernelRun0_A.sl.v302, kernelRun0_A.sl.v301, kernelRun0_A.sl.v300, kernelRun0_A.sl.v299, kernelRun0_A.sl.v298, kernelRun0_A.sl.v284, kernelRun0_A.sl.v283, kernelRun0_A.sl.v282, kernelRun0_A.sl.v281, kernelRun0_A.sl.v280, kernelRun0_A.sl.v279, kernelRun0_A.sl.v278, kernelRun0_A.sl.v277, kernelRun0_A.sl.v276, kernelRun0_A.sl.v262, kernelRun0_A.sl.v261, kernelRun0_A.sl.v260, kernelRun0_A.sl.v259, kernelRun0_A.sl.v258, kernelRun0_A.sl.v257, kernelRun0_A.sl.v256, kernelRun0_A.sl.v255, kernelRun0_A.sl.v254, kernelRun0_A.sl.v240, kernelRun0_A.sl.cst]
  pointwise [chunk0 c arg1 h1 arg2 h2 arg3 h3 arg4 h4 arg8 x0 x1 x2 x3, chunk1 c arg1 h1 arg2 h2 arg3 h3 arg4 h4 arg8 x0 x1 x2 x3, chunk2 c arg1 h1 arg2 h2 arg3 h3 arg4 h4 arg8 x0 x1 x2 x3, chunk3 c arg1 h1 arg2 h2 arg3 h3 arg4 h4 arg8 x0 x1 x2 x3, lane16]

/-- The normalised rows of one block, as the second output block holds them. -/
theorem norm_pay (arg5 : Memref sig .tc .vmem S1x2560 .f32) (h5 : arg5.IsWhole) (arg6 : Memref sig .tc .vmem S512x2560 .bf16)
    (x4 : Vec Ideal S1x2560 .f32) (y : S512x2560.Idx) :
    k0_pay1 (F := Ideal) (kernelRun0_A.sl.r c arg1 h1 arg2 h2 arg3 h3 arg4 h4 arg5 h5 arg6 arg8 x0 x1 x2 x3 x4) y = H2 x0 x1 x2 x3 x4 y := by
  unfold kernelRun0_A.sl.r
  simp only [resid_eq, scratch_eq, View.readAt_eq_ld, h2.read_unread, h3.read_unread, h4.read_unread, h5.read_unread]
  pointwise [k0_pay1, k0_pay51, chunk4 x0 x1 x2 x3, lanes16, H2]
  rw [lane_sum fun k => HM x0 x1 x2 x3 (ix2 (y 0) k) * HM x0 x1 x2 x3 (ix2 (y 0) k)]
  rw [IdealRules.named_const.ideal_named_scalar _ _ _ _ rfl]

end run
end Cert.OProjIdeal.Block
-- ==== Proof.OProjArray.lean ====
module

public import proofs.«01_k».proof.Proof.OProjSpec
public import proofs.«01_k».proof.Proof.OProjBlock

/-! What the kernel's two result arrays hold: each block of 512 rows is its point's, so the arrays are the specification's. -/

@[expose] public section

set_option maxRecDepth 16384

noncomputable section

namespace Cert.OProjIdeal.Array

open Cert.OProjIdeal Cert.OProjIdeal.Gen Cert.OProjIdeal.Block Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0] ∧ win0_2.index t = ![0, 0] ∧
    win0_3.index t = ![0, 0] ∧ win0_4.index t = ![0, 0] ∧ win0_5.index t = ![t.val, 0] ∧ win0_6.index t = ![t.val, 0] :=
  (by decide +kernel : ∀ t : Fin grid0.N, _)

/-- One point leaves in the first output block the residual rows of its blocks. -/
theorem out5 (c : Dev nD) (t : Fin cfg0.N) (y : S512x2560.Idx) :
    (outsAt0 m c t).1 y = HM (iblk m c 0 t) (iblk m c 1 t) (iblk m c 2 t) (iblk m c 3 t) y := by
  unfold outsAt0 out0_A_5
  rw [View.read_writes_junk_eq_canon]
  unfold kernelRun0_A
  dsimp only
  exact resid_pieces ..

/-- One point leaves in the second output block the normalised rows of its blocks. -/
theorem out6 (c : Dev nD) (t : Fin cfg0.N) (y : S512x2560.Idx) :
    (outsAt0 m c t).2 y = H2 (iblk m c 0 t) (iblk m c 1 t) (iblk m c 2 t) (iblk m c 3 t) (iblk m c 4 t) y := by
  unfold outsAt0 out0_A_6
  rw [View.read_writes_junk_eq_canon]
  unfold kernelRun0_A
  dsimp only
  rw [View.canon_cons_unit_lit]
  · exact norm_pay ..
  · intro a; fin_cases a <;> rfl

variable (c : Dev nD)

/-- The kernel's arguments, as the specification takes them. -/
abbrev hm : Vec Ideal S5120x2560 .bf16 :=
  Spec.hMid (m ((c : Thread nD τ).loc main_arg0)) (m ((c : Thread nD τ).loc main_arg1)) (m ((c : Thread nD τ).loc main_arg2)) (m ((c : Thread nD τ).loc main_arg3))

/-- A block's residual rows are the specification's, at the rows of the block. -/
theorem hm_block (t : Fin cfg0.N) (y : S512x2560.Idx) :
    HM (iblk m c 0 t) (iblk m c 1 t) (iblk m c 2 t) (iblk m c 3 t) y =
      hm m c (ix2 ⟨512 * t.val + (y 0).val, by have : t.val < 10 := t.isLt; have : (y 0).val < 512 := (y 0).isLt; omega⟩ (y 1)) := by
  obtain ⟨h0, h1, h2, h3, h4, h5, h6⟩ := idx t
  unfold HM A2 hm Spec.hMid
  pointwise
  blk_point [iblk, V, h0, h1, h2, h3]

/-- The first result array. -/
theorem arr5 : (dats m 0 c).arrAt 5 cfg0.N = hm m c := by
  refine (dats m 0 c).arrAt_eq_of_covers 5 _ (by decide +kernel) fun t _ y => ?_
  obtain ⟨h0, h1, h2, h3, h4, h5, h6⟩ := idx t
  blk_simp [h5]
  rw [after0_5]
  refine (out5 m c t y).trans ((hm_block m c t y).trans (congrArg (hm m c) ?_))
  blk_ext [h5]

/-- The kernel's arguments, as the specification takes them, the gain with them. -/
abbrev h2 : Vec Ideal S5120x2560 .bf16 :=
  Spec.h2 (m ((c : Thread nD τ).loc main_arg0)) (m ((c : Thread nD τ).loc main_arg1)) (m ((c : Thread nD τ).loc main_arg2))
    (m ((c : Thread nD τ).loc main_arg3)) (m ((c : Thread nD τ).loc main_arg4))

/-- A block's normalised rows are the specification's, at the rows of the block. -/
theorem h2_block (t : Fin cfg0.N) (y : S512x2560.Idx) :
    H2 (iblk m c 0 t) (iblk m c 1 t) (iblk m c 2 t) (iblk m c 3 t) (iblk m c 4 t) y =
      h2 m c (ix2 ⟨512 * t.val + (y 0).val, by have : t.val < 10 := t.isLt; have : (y 0).val < 512 := (y 0).isLt; omega⟩ (y 1)) := by
  obtain ⟨h0, h1, h2, h3, h4, h5, h6⟩ := idx t
  have hg : (iblk m c 4 t : Vec Ideal S1x2560 .f32) (ix2 0 (y 1)) = m ((c : Thread nD τ).loc main_arg4) (ix1 (y 1)) := by
    blk_point [iblk, V, h4]
  unfold H2 Array.h2 Spec.h2
  simp only [hm_block, hg]
  rfl

/-- The second result array. -/
theorem arr6 : (dats m 0 c).arrAt 6 cfg0.N = h2 m c := by
  refine (dats m 0 c).arrAt_eq_of_covers 6 _ (by decide +kernel) fun t _ y => ?_
  obtain ⟨h0, h1, h2', h3, h4, h5, h6⟩ := idx t
  blk_simp [h6]
  rw [after0_6]
  refine (out6 m c t y).trans ((h2_block m c t y).trans (congrArg (h2 m c) ?_))
  blk_ext [h6]

end Cert.OProjIdeal.Array
-- ==== Proof.OProjReference.lean ====
module

public import proofs.«01_k».proof.Proof.OProjSpec
public import proofs.«01_k».proof.Proof.Gen.OProjRefIdeal.Value

/-! What the reference's two result arrays hold: the specification, computed on whole arrays. -/

@[expose] public section

set_option maxRecDepth 16384

noncomputable section

namespace Cert.OProjRefIdeal.Array

open Cert.OProjRefIdeal Cert.OProjRefIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] :=
  (by decide +kernel : ∀ t : Fin grid0.N, _)

/-- The arguments, as the specification takes them. -/
abbrev hm : Vec Ideal S5120x2560 .bf16 :=
  OProjIdeal.Spec.hMid (m ((c : Thread nD τ).loc main_arg0)) (m ((c : Thread nD τ).loc main_arg1)) (m ((c : Thread nD τ).loc main_arg2)) (m ((c : Thread nD τ).loc main_arg3))

theorem two560 : Ideal.ofBits .f32 0x45200000#32 = ((2560 : ℝ) : EReal) := by
  simp [Ideal.ofBits, Ideal.ieee, -EReal.coe_mul]
  norm_num

/-- The first result array. -/
theorem arr5 : (dats m 0 c).arrAt 5 cfg0.N = hm m c := by
  obtain ⟨h0, h1, h2, h3, h4, h5, h6⟩ := idx t0_0
  refine (dats m 0 c).arrAt_eq_of_after_last 5 t0_0 (by decide +kernel) _ fun j => ?_
  blk_simp
  rw [after0_5]
  frame_out
  pointwise [k0_pay1, hm, OProjIdeal.Spec.hMid]
  blk_point [iblk, V, h0, h1, h2, h3, h5]

/-- The second result array. -/
theorem arr6 : (dats m 0 c).arrAt 6 cfg0.N =
    OProjIdeal.Spec.h2 (m ((c : Thread nD τ).loc main_arg0)) (m ((c : Thread nD τ).loc main_arg1)) (m ((c : Thread nD τ).loc main_arg2))
      (m ((c : Thread nD τ).loc main_arg3)) (m ((c : Thread nD τ).loc main_arg4)) := by
  obtain ⟨h0, h1, h2, h3, h4, h5, h6⟩ := idx t0_0
  refine (dats m 0 c).arrAt_eq_of_after_last 6 t0_0 (by decide +kernel) _ fun j => ?_
  blk_simp
  rw [after0_6]
  frame_out
  pointwise [k0_pay2, k0_pay1, OProjIdeal.Spec.h2, OProjIdeal.Spec.hMid, two560]
  rw [Ideal.div_coe (by norm_num : (2560:ℝ) ≠ 0)]
  blk_point [iblk, V, h0, h1, h2, h3, h4, h6]

end Cert.OProjRefIdeal.Array
-- ==== Proof.OProjClaims.lean ====
module

public import proofs.«01_k».proof.Defs
public import proofs.«01_k».proof.Proof.OProjArray
public import proofs.«01_k».proof.Proof.OProjReference
public import Idealize.ShloMosaic.Lib.Bf16Pair

/-! The two claims of the output projection: what the idealized program keeps of the printed one, and that it computes
    what the reference computes. -/

@[expose] public section

noncomputable section

namespace Cert.Proof.OProjClaims

open Idealize.ShloMosaic Idealize.ShloMosaic.TcCoe Idealize.SL.Sem

/-- The rewritten places: the pairs of bf16 rows read as words, their halves, and the named constant `1 / 2560`. -/
theorem preserves : Cert.preserves_OProj_OProjIdeal :=
  ⟨IdealRules.bf16_pair.statement Cert.OProjIdeal.S512x2x128 Cert.OProjIdeal.S512x1x128,
    IdealRules.bf16_pair.halfStatement Cert.OProjIdeal.S512x128,
    IdealRules.named_const.statement Cert.OProjIdeal.κ "inv_n" .f32 0x39CCCCCD#32 _ rfl⟩

/-- Over the reals the kernel leaves the reference's two arrays: the residual rows and the normalised rows. -/
theorem algebraic : Cert.algebraic_OProjIdeal_OProjRefIdeal := by
  intro m ρ m' ρ' _ hagree
  refine ⟨fun c => Cert.OProjIdeal.Array.hm m c, fun c => Cert.OProjIdeal.Array.h2 m c,
    (θ_run Cert.OProjIdeal.defs _ _).mono (fun _ h c => ⟨(h c).1.trans (Cert.OProjIdeal.Array.arr5 m c),
      (h c).2.1.trans (Cert.OProjIdeal.Array.arr6 m c), (h c).2.2⟩) (Cert.OProjIdeal.Value.run_blocks m ρ), ?_⟩
  refine (θ_run Cert.OProjRefIdeal.defs _ _).mono
    (fun _ h c => ⟨(h c).1.trans ?_, (h c).2.1.trans ?_, (h c).2.2⟩) (Cert.OProjRefIdeal.Value.run_blocks m' ρ')
  · obtain ⟨h0, h1, h2, h3, _⟩ := hagree c
    rw [Cert.OProjRefIdeal.Array.arr5, Cert.OProjRefIdeal.Array.hm, h0, h1, h2, h3]
  · obtain ⟨h0, h1, h2, h3, h4⟩ := hagree c
    rw [Cert.OProjRefIdeal.Array.arr6, h0, h1, h2, h3, h4]

end Cert.Proof.OProjClaims
-- ==== Proof.GateUpRing.lean ====
module

public import proofs.«01_k».proof.Proof.Gen.GateUpIdeal
public import proofs.«01_k».proof.Proof.Gen.GateUpIdeal.Frame
public import proofs.«01_k».proof.Proof.Gen.GateUpIdeal.Launch
public import proofs.«01_k».proof.Proof.Gen.GateUpIdeal.Skeleton
public import proofs.«01_k».proof.Proof.Gen.GateUpIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

/-!
# The two copy rings of `gate_up`

Beside its matrix products the kernel copies the two pools, one piece per grid point: piece `b` of a pool is read
into a half of the scratch (slot `b % 2`) one point ahead, and written from there to the output pool, where the write
is awaited one point later.  This module names the slots, the semaphore cells and the pieces, says which of them the
body speaks of at each grid point, and gives the lemmas that take a pool apart at a piece and put it back.
-/

@[expose] public section

set_option maxRecDepth 16384

noncomputable section

namespace Cert.GateUpIdeal.Hand

open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The branch conditions -/

abbrev cond1 (i : grid0.Coords) : Prop := k0_cond1 i = 1#1
abbrev cond2 (i : grid0.Coords) : Prop := k0_cond2 i = 1#1
abbrev cond3 (i : grid0.Coords) : Prop := k0_cond3 i = 1#1
abbrev cond4 (i : grid0.Coords) : Prop := k0_cond4 i = 1#1
/-- The first point starts the first reads; -/
theorem hcond1 : ∀ t : Fin cfg0.N, cond1 (grid0.coords t) ↔ t.val = 0 :=
  (by decide +kernel : ∀ t : Fin grid0.N, cond1 (grid0.coords t) ↔ t.val = 0)
/-- every later point awaits the writes of the point before; -/
theorem hcond2 : ∀ t : Fin cfg0.N, cond2 (grid0.coords t) ↔ 1 ≤ t.val :=
  (by decide +kernel : ∀ t : Fin grid0.N, cond2 (grid0.coords t) ↔ 1 ≤ t.val)
/-- every point but the last starts the reads of the next; -/
theorem hcond3 : ∀ t : Fin cfg0.N, cond3 (grid0.coords t) ↔ t.val < 37 :=
  (by decide +kernel : ∀ t : Fin grid0.N, cond3 (grid0.coords t) ↔ t.val < 37)
/-- the last awaits its own writes. -/
theorem hcond4 : ∀ t : Fin cfg0.N, cond4 (grid0.coords t) ↔ t.val = 37 :=
  (by decide +kernel : ∀ t : Fin grid0.N, cond4 (grid0.coords t) ↔ t.val = 37)

/-! ## The operands the body copies -/

abbrev scM : Memref sig .tc .vmem S2x2x3488x8x128 .fp8e4m3 := Memref.whole cc0_scratch0
abbrev kIn : Memref sig .tc .hbm S132000x8x128 .fp8e4m3 := Memref.whole main_arg5
abbrev vIn : Memref sig .tc .hbm S132000x8x128 .fp8e4m3 := Memref.whole main_arg6
abbrev kOut : Memref sig .tc .hbm S132000x8x128 .fp8e4m3 := Memref.whole main_v2_1
abbrev vOut : Memref sig .tc .hbm S132000x8x128 .fp8e4m3 := Memref.whole main_v2_2
/-- Memref `M`'s buffer on core `c`: its contents type, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

instance : NeZero grid0.N := ⟨by rw [N_0]; decide⟩

/-! ## Slots, cells and pieces -/

theorem inb_buf (s p : Fin 2) : ∀ a, (![s.val, p.val, 0, 0, 0] : Fin 5 → Nat) a + S1x1x3488x8x128.size a ≤ S2x2x3488x8x128.size a := by
  have := s.isLt; have := p.isLt; intro a; fin_cases a <;> simp <;> omega
theorem inb_cell (s p : Fin 2) : ∀ a, (![s.val, p.val] : Fin 2 → Nat) a + S1x1.size a ≤ S2x2.size a := by
  have := s.isLt; have := p.isLt; intro a; fin_cases a <;> simp <;> omega
/-- The first row of piece `b`. -/
abbrev start (b : ℕ) : ℕ := 16 * min (218 * b) 8032
theorem inb_piece (b : ℕ) : ∀ a, (![start b, 0, 0] : Fin 3 → Nat) a + S3488x8x128.size a ≤ S132000x8x128.size a := by
  intro a; fin_cases a <;> simp [start] <;> omega
/-- Slot `s` of pool `p` in the scratch. -/
def buf (s p : Fin 2) : Memref sig .tc .vmem S3488x8x128 .fp8e4m3 :=
  (scM.slice (Rect.unit (s := S2x2x3488x8x128) ![s.val, p.val, 0, 0, 0] S1x1x3488x8x128.size (inb_buf s p)) (fun _ => rfl)).squeeze S3488x8x128 squeezes_S1x1x3488x8x128_S3488x8x128
/-- The cell the reads into slot `s` of pool `p` complete on, -/
def rd (s p : Fin 2) : DmaSems sig S_ := (cc0_scratch1.slice (Rect.unit (s := S2x2) ![s.val, p.val] S1x1.size (inb_cell s p))).squeeze S_ squeezes_S1x1_S_
/-- and the one the writes from it complete on. -/
def wr (s p : Fin 2) : DmaSems sig S_ := (cc0_scratch2.slice (Rect.unit (s := S2x2) ![s.val, p.val] S1x1.size (inb_cell s p))).squeeze S_ squeezes_S1x1_S_
/-- Piece `b` of a pool. -/
def piece (M : Memref sig .tc .hbm S132000x8x128 .fp8e4m3) (b : ℕ) : Memref sig .tc .hbm S3488x8x128 .fp8e4m3 :=
  M.slice (Rect.unit (s := S132000x8x128) ![start b, 0, 0] S3488x8x128.size (inb_piece b)) (fun _ => rfl)
abbrev rdR (s p : Fin 2) : SemLoc sig := SemLoc.dma (rd s p).sem
abbrev wrR (s p : Fin 2) : SemLoc sig := SemLoc.dma (wr s p).sem
theorem rdR_00 : rdR 0 0 = SemLoc.dma 12 := by decide
theorem rdR_01 : rdR 0 1 = SemLoc.dma 13 := by decide
theorem rdR_10 : rdR 1 0 = SemLoc.dma 14 := by decide
theorem rdR_11 : rdR 1 1 = SemLoc.dma 15 := by decide
theorem wrR_00 : wrR 0 0 = SemLoc.dma 16 := by decide
theorem wrR_01 : wrR 0 1 = SemLoc.dma 17 := by decide
theorem wrR_10 : wrR 1 0 = SemLoc.dma 18 := by decide
theorem wrR_11 : wrR 1 1 = SemLoc.dma 19 := by decide

/-! ## What the body speaks of at point `t` -/

section Canon
omit [FloatOps F]
/-- Equal offsets give the same slot, -/
theorem buf_congr {o : Fin 5 → ℕ} {s p : Fin 2} (h : o = ![s.val, p.val, 0, 0, 0]) (hi : ∀ a, o a + S1x1x3488x8x128.size a ≤ S2x2x3488x8x128.size a) :
    (scM.slice (Rect.unit (s := S2x2x3488x8x128) o S1x1x3488x8x128.size hi) (fun _ => rfl)).squeeze S3488x8x128 squeezes_S1x1x3488x8x128_S3488x8x128 = buf s p := by
  subst h; rfl
/-- the same cells, -/
theorem rd_congr {o : Fin 2 → ℕ} {s p : Fin 2} (h : o = ![s.val, p.val]) (hi : ∀ a, o a + S1x1.size a ≤ S2x2.size a) :
    (cc0_scratch1.slice (Rect.unit (s := S2x2) o S1x1.size hi)).squeeze S_ squeezes_S1x1_S_ = rd s p := by
  subst h; rfl
theorem wr_congr {o : Fin 2 → ℕ} {s p : Fin 2} (h : o = ![s.val, p.val]) (hi : ∀ a, o a + S1x1.size a ≤ S2x2.size a) :
    (cc0_scratch2.slice (Rect.unit (s := S2x2) o S1x1.size hi)).squeeze S_ squeezes_S1x1_S_ = wr s p := by
  subst h; rfl
/-- and the same piece. -/
theorem piece_congr (M : Memref sig .tc .hbm S132000x8x128 .fp8e4m3) {o : Fin 3 → ℕ} {b : ℕ} (h : o = ![start b, 0, 0]) (hi : ∀ a, o a + S3488x8x128.size a ≤ S132000x8x128.size a) :
    M.slice (Rect.unit (s := S132000x8x128) o S3488x8x128.size hi) (fun _ => rfl) = piece M b := by
  subst h; rfl
set_option synthInstance.maxSize 4096 in
theorem coff1 : ∀ t : Fin grid0.N, cond1 (grid0.coords t) → k0_off1 (grid0.coords t) = ![(Ring.sl 2 t.val).val, 0] := by decide +kernel
@[sl_canon] theorem canon1 (t : Fin grid0.N) (h : cond1 (grid0.coords t)) :
    (cc0_scratch1.slice (Rect.unit (s := S2x2) (k0_off1 (grid0.coords t)) S1x1.size (k0_off1_inb (grid0.coords t) h))).squeeze S_ squeezes_S1x1_S_ = rd (Ring.sl 2 t.val) 0 :=
  rd_congr (coff1 t h) _
set_option synthInstance.maxSize 4096 in
theorem coff2 : ∀ t : Fin grid0.N, cond1 (grid0.coords t) → k0_off2 (grid0.coords t) = ![(Ring.sl 2 t.val).val, 0, 0, 0, 0] := by decide +kernel
@[sl_canon] theorem canon2 (t : Fin grid0.N) (h : cond1 (grid0.coords t)) :
    (scM.slice (Rect.unit (s := S2x2x3488x8x128) (k0_off2 (grid0.coords t)) S1x1x3488x8x128.size (k0_off2_inb (grid0.coords t) h)) (fun _ => rfl)).squeeze S3488x8x128 squeezes_S1x1x3488x8x128_S3488x8x128 = buf (Ring.sl 2 t.val) 0 :=
  buf_congr (coff2 t h) _
set_option synthInstance.maxSize 4096 in
theorem coff3 : ∀ t : Fin grid0.N, cond1 (grid0.coords t) → k0_off3 (grid0.coords t) = ![start t.val, 0, 0] := by decide +kernel
@[sl_canon] theorem canon3 (M : Memref sig .tc .hbm S132000x8x128 .fp8e4m3) (t : Fin grid0.N) (h : cond1 (grid0.coords t)) :
    M.slice (Rect.unit (s := S132000x8x128) (k0_off3 (grid0.coords t)) S3488x8x128.size (k0_off3_inb (grid0.coords t) h)) (fun _ => rfl) = piece M t.val :=
  piece_congr M (coff3 t h) _
set_option synthInstance.maxSize 4096 in
theorem coff4 : ∀ t : Fin grid0.N, cond1 (grid0.coords t) → k0_off4 (grid0.coords t) = ![(Ring.sl 2 t.val).val, 1] := by decide +kernel
@[sl_canon] theorem canon4 (t : Fin grid0.N) (h : cond1 (grid0.coords t)) :
    (cc0_scratch1.slice (Rect.unit (s := S2x2) (k0_off4 (grid0.coords t)) S1x1.size (k0_off4_inb (grid0.coords t) h))).squeeze S_ squeezes_S1x1_S_ = rd (Ring.sl 2 t.val) 1 :=
  rd_congr (coff4 t h) _
set_option synthInstance.maxSize 4096 in
theorem coff5 : ∀ t : Fin grid0.N, cond1 (grid0.coords t) → k0_off5 (grid0.coords t) = ![(Ring.sl 2 t.val).val, 1, 0, 0, 0] := by decide +kernel
@[sl_canon] theorem canon5 (t : Fin grid0.N) (h : cond1 (grid0.coords t)) :
    (scM.slice (Rect.unit (s := S2x2x3488x8x128) (k0_off5 (grid0.coords t)) S1x1x3488x8x128.size (k0_off5_inb (grid0.coords t) h)) (fun _ => rfl)).squeeze S3488x8x128 squeezes_S1x1x3488x8x128_S3488x8x128 = buf (Ring.sl 2 t.val) 1 :=
  buf_congr (coff5 t h) _
set_option synthInstance.maxSize 4096 in
theorem coff6 : ∀ t : Fin grid0.N, k0_off6 (grid0.coords t) = ![(Ring.sl 2 t.val).val, 0] := by decide +kernel
@[sl_canon] theorem canon6 (t : Fin grid0.N) :
    (cc0_scratch1.slice (Rect.unit (s := S2x2) (k0_off6 (grid0.coords t)) S1x1.size (k0_off6_inb (grid0.coords t)))).squeeze S_ squeezes_S1x1_S_ = rd (Ring.sl 2 t.val) 0 :=
  rd_congr (coff6 t) _
set_option synthInstance.maxSize 4096 in
theorem coff7 : ∀ t : Fin grid0.N, k0_off7 (grid0.coords t) = ![(Ring.sl 2 t.val).val, 0, 0, 0, 0] := by decide +kernel
@[sl_canon] theorem canon7 (t : Fin grid0.N) :
    (scM.slice (Rect.unit (s := S2x2x3488x8x128) (k0_off7 (grid0.coords t)) S1x1x3488x8x128.size (k0_off7_inb (grid0.coords t))) (fun _ => rfl)).squeeze S3488x8x128 squeezes_S1x1x3488x8x128_S3488x8x128 = buf (Ring.sl 2 t.val) 0 :=
  buf_congr (coff7 t) _
set_option synthInstance.maxSize 4096 in
theorem coff8 : ∀ t : Fin grid0.N, k0_off8 (grid0.coords t) = ![start t.val, 0, 0] := by decide +kernel
@[sl_canon] theorem canon8 (M : Memref sig .tc .hbm S132000x8x128 .fp8e4m3) (t : Fin grid0.N) :
    M.slice (Rect.unit (s := S132000x8x128) (k0_off8 (grid0.coords t)) S3488x8x128.size (k0_off8_inb (grid0.coords t))) (fun _ => rfl) = piece M t.val :=
  piece_congr M (coff8 t) _
set_option synthInstance.maxSize 4096 in
theorem coff9 : ∀ t : Fin grid0.N, k0_off9 (grid0.coords t) = ![(Ring.sl 2 t.val).val, 1] := by decide +kernel
@[sl_canon] theorem canon9 (t : Fin grid0.N) :
    (cc0_scratch1.slice (Rect.unit (s := S2x2) (k0_off9 (grid0.coords t)) S1x1.size (k0_off9_inb (grid0.coords t)))).squeeze S_ squeezes_S1x1_S_ = rd (Ring.sl 2 t.val) 1 :=
  rd_congr (coff9 t) _
set_option synthInstance.maxSize 4096 in
theorem coff10 : ∀ t : Fin grid0.N, k0_off10 (grid0.coords t) = ![(Ring.sl 2 t.val).val, 1, 0, 0, 0] := by decide +kernel
@[sl_canon] theorem canon10 (t : Fin grid0.N) :
    (scM.slice (Rect.unit (s := S2x2x3488x8x128) (k0_off10 (grid0.coords t)) S1x1x3488x8x128.size (k0_off10_inb (grid0.coords t))) (fun _ => rfl)).squeeze S3488x8x128 squeezes_S1x1x3488x8x128_S3488x8x128 = buf (Ring.sl 2 t.val) 1 :=
  buf_congr (coff10 t) _
set_option synthInstance.maxSize 4096 in
theorem coff11 : ∀ t : Fin grid0.N, cond2 (grid0.coords t) → k0_off11 (grid0.coords t) = ![(Ring.sl 2 (t.val + 1)).val, 0] := by decide +kernel
@[sl_canon] theorem canon11 (t : Fin grid0.N) (h : cond2 (grid0.coords t)) :
    (cc0_scratch2.slice (Rect.unit (s := S2x2) (k0_off11 (grid0.coords t)) S1x1.size (k0_off11_inb (grid0.coords t) h))).squeeze S_ squeezes_S1x1_S_ = wr (Ring.sl 2 (t.val + 1)) 0 :=
  wr_congr (coff11 t h) _
set_option synthInstance.maxSize 4096 in
theorem coff12 : ∀ t : Fin grid0.N, cond2 (grid0.coords t) → k0_off12 (grid0.coords t) = ![start (t.val - 1), 0, 0] := by decide +kernel
@[sl_canon] theorem canon12 (M : Memref sig .tc .hbm S132000x8x128 .fp8e4m3) (t : Fin grid0.N) (h : cond2 (grid0.coords t)) :
    M.slice (Rect.unit (s := S132000x8x128) (k0_off12 (grid0.coords t)) S3488x8x128.size (k0_off12_inb (grid0.coords t) h)) (fun _ => rfl) = piece M (t.val - 1) :=
  piece_congr M (coff12 t h) _
set_option synthInstance.maxSize 4096 in
theorem coff13 : ∀ t : Fin grid0.N, cond2 (grid0.coords t) → k0_off13 (grid0.coords t) = ![(Ring.sl 2 (t.val + 1)).val, 0, 0, 0, 0] := by decide +kernel
@[sl_canon] theorem canon13 (t : Fin grid0.N) (h : cond2 (grid0.coords t)) :
    (scM.slice (Rect.unit (s := S2x2x3488x8x128) (k0_off13 (grid0.coords t)) S1x1x3488x8x128.size (k0_off13_inb (grid0.coords t) h)) (fun _ => rfl)).squeeze S3488x8x128 squeezes_S1x1x3488x8x128_S3488x8x128 = buf (Ring.sl 2 (t.val + 1)) 0 :=
  buf_congr (coff13 t h) _
set_option synthInstance.maxSize 4096 in
theorem coff14 : ∀ t : Fin grid0.N, cond2 (grid0.coords t) → k0_off14 (grid0.coords t) = ![(Ring.sl 2 (t.val + 1)).val, 1] := by decide +kernel
@[sl_canon] theorem canon14 (t : Fin grid0.N) (h : cond2 (grid0.coords t)) :
    (cc0_scratch2.slice (Rect.unit (s := S2x2) (k0_off14 (grid0.coords t)) S1x1.size (k0_off14_inb (grid0.coords t) h))).squeeze S_ squeezes_S1x1_S_ = wr (Ring.sl 2 (t.val + 1)) 1 :=
  wr_congr (coff14 t h) _
set_option synthInstance.maxSize 4096 in
theorem coff15 : ∀ t : Fin grid0.N, cond2 (grid0.coords t) → k0_off15 (grid0.coords t) = ![(Ring.sl 2 (t.val + 1)).val, 1, 0, 0, 0] := by decide +kernel
@[sl_canon] theorem canon15 (t : Fin grid0.N) (h : cond2 (grid0.coords t)) :
    (scM.slice (Rect.unit (s := S2x2x3488x8x128) (k0_off15 (grid0.coords t)) S1x1x3488x8x128.size (k0_off15_inb (grid0.coords t) h)) (fun _ => rfl)).squeeze S3488x8x128 squeezes_S1x1x3488x8x128_S3488x8x128 = buf (Ring.sl 2 (t.val + 1)) 1 :=
  buf_congr (coff15 t h) _
set_option synthInstance.maxSize 4096 in
theorem coff16 : ∀ t : Fin grid0.N, cond3 (grid0.coords t) → k0_off16 (grid0.coords t) = ![(Ring.sl 2 (t.val + 1)).val, 0] := by decide +kernel
@[sl_canon] theorem canon16 (t : Fin grid0.N) (h : cond3 (grid0.coords t)) :
    (cc0_scratch1.slice (Rect.unit (s := S2x2) (k0_off16 (grid0.coords t)) S1x1.size (k0_off16_inb (grid0.coords t) h))).squeeze S_ squeezes_S1x1_S_ = rd (Ring.sl 2 (t.val + 1)) 0 :=
  rd_congr (coff16 t h) _
set_option synthInstance.maxSize 4096 in
theorem coff17 : ∀ t : Fin grid0.N, cond3 (grid0.coords t) → k0_off17 (grid0.coords t) = ![(Ring.sl 2 (t.val + 1)).val, 0, 0, 0, 0] := by decide +kernel
@[sl_canon] theorem canon17 (t : Fin grid0.N) (h : cond3 (grid0.coords t)) :
    (scM.slice (Rect.unit (s := S2x2x3488x8x128) (k0_off17 (grid0.coords t)) S1x1x3488x8x128.size (k0_off17_inb (grid0.coords t) h)) (fun _ => rfl)).squeeze S3488x8x128 squeezes_S1x1x3488x8x128_S3488x8x128 = buf (Ring.sl 2 (t.val + 1)) 0 :=
  buf_congr (coff17 t h) _
set_option synthInstance.maxSize 4096 in
theorem coff18 : ∀ t : Fin grid0.N, cond3 (grid0.coords t) → k0_off18 (grid0.coords t) = ![start (t.val + 1), 0, 0] := by decide +kernel
@[sl_canon] theorem canon18 (M : Memref sig .tc .hbm S132000x8x128 .fp8e4m3) (t : Fin grid0.N) (h : cond3 (grid0.coords t)) :
    M.slice (Rect.unit (s := S132000x8x128) (k0_off18 (grid0.coords t)) S3488x8x128.size (k0_off18_inb (grid0.coords t) h)) (fun _ => rfl) = piece M (t.val + 1) :=
  piece_congr M (coff18 t h) _
set_option synthInstance.maxSize 4096 in
theorem coff19 : ∀ t : Fin grid0.N, cond3 (grid0.coords t) → k0_off19 (grid0.coords t) = ![(Ring.sl 2 (t.val + 1)).val, 1] := by decide +kernel
@[sl_canon] theorem canon19 (t : Fin grid0.N) (h : cond3 (grid0.coords t)) :
    (cc0_scratch1.slice (Rect.unit (s := S2x2) (k0_off19 (grid0.coords t)) S1x1.size (k0_off19_inb (grid0.coords t) h))).squeeze S_ squeezes_S1x1_S_ = rd (Ring.sl 2 (t.val + 1)) 1 :=
  rd_congr (coff19 t h) _
set_option synthInstance.maxSize 4096 in
theorem coff20 : ∀ t : Fin grid0.N, cond3 (grid0.coords t) → k0_off20 (grid0.coords t) = ![(Ring.sl 2 (t.val + 1)).val, 1, 0, 0, 0] := by decide +kernel
@[sl_canon] theorem canon20 (t : Fin grid0.N) (h : cond3 (grid0.coords t)) :
    (scM.slice (Rect.unit (s := S2x2x3488x8x128) (k0_off20 (grid0.coords t)) S1x1x3488x8x128.size (k0_off20_inb (grid0.coords t) h)) (fun _ => rfl)).squeeze S3488x8x128 squeezes_S1x1x3488x8x128_S3488x8x128 = buf (Ring.sl 2 (t.val + 1)) 1 :=
  buf_congr (coff20 t h) _
set_option synthInstance.maxSize 4096 in
theorem coff21 : ∀ t : Fin grid0.N, cond4 (grid0.coords t) → k0_off21 (grid0.coords t) = ![(Ring.sl 2 t.val).val, 0] := by decide +kernel
@[sl_canon] theorem canon21 (t : Fin grid0.N) (h : cond4 (grid0.coords t)) :
    (cc0_scratch2.slice (Rect.unit (s := S2x2) (k0_off21 (grid0.coords t)) S1x1.size (k0_off21_inb (grid0.coords t) h))).squeeze S_ squeezes_S1x1_S_ = wr (Ring.sl 2 t.val) 0 :=
  wr_congr (coff21 t h) _
set_option synthInstance.maxSize 4096 in
theorem coff22 : ∀ t : Fin grid0.N, cond4 (grid0.coords t) → k0_off22 (grid0.coords t) = ![start t.val, 0, 0] := by decide +kernel
@[sl_canon] theorem canon22 (M : Memref sig .tc .hbm S132000x8x128 .fp8e4m3) (t : Fin grid0.N) (h : cond4 (grid0.coords t)) :
    M.slice (Rect.unit (s := S132000x8x128) (k0_off22 (grid0.coords t)) S3488x8x128.size (k0_off22_inb (grid0.coords t) h)) (fun _ => rfl) = piece M t.val :=
  piece_congr M (coff22 t h) _
set_option synthInstance.maxSize 4096 in
theorem coff23 : ∀ t : Fin grid0.N, cond4 (grid0.coords t) → k0_off23 (grid0.coords t) = ![(Ring.sl 2 t.val).val, 0, 0, 0, 0] := by decide +kernel
@[sl_canon] theorem canon23 (t : Fin grid0.N) (h : cond4 (grid0.coords t)) :
    (scM.slice (Rect.unit (s := S2x2x3488x8x128) (k0_off23 (grid0.coords t)) S1x1x3488x8x128.size (k0_off23_inb (grid0.coords t) h)) (fun _ => rfl)).squeeze S3488x8x128 squeezes_S1x1x3488x8x128_S3488x8x128 = buf (Ring.sl 2 t.val) 0 :=
  buf_congr (coff23 t h) _
set_option synthInstance.maxSize 4096 in
theorem coff24 : ∀ t : Fin grid0.N, cond4 (grid0.coords t) → k0_off24 (grid0.coords t) = ![(Ring.sl 2 t.val).val, 1] := by decide +kernel
@[sl_canon] theorem canon24 (t : Fin grid0.N) (h : cond4 (grid0.coords t)) :
    (cc0_scratch2.slice (Rect.unit (s := S2x2) (k0_off24 (grid0.coords t)) S1x1.size (k0_off24_inb (grid0.coords t) h))).squeeze S_ squeezes_S1x1_S_ = wr (Ring.sl 2 t.val) 1 :=
  wr_congr (coff24 t h) _
set_option synthInstance.maxSize 4096 in
theorem coff25 : ∀ t : Fin grid0.N, cond4 (grid0.coords t) → k0_off25 (grid0.coords t) = ![(Ring.sl 2 t.val).val, 1, 0, 0, 0] := by decide +kernel
@[sl_canon] theorem canon25 (t : Fin grid0.N) (h : cond4 (grid0.coords t)) :
    (scM.slice (Rect.unit (s := S2x2x3488x8x128) (k0_off25 (grid0.coords t)) S1x1x3488x8x128.size (k0_off25_inb (grid0.coords t) h)) (fun _ => rfl)).squeeze S3488x8x128 squeezes_S1x1x3488x8x128_S3488x8x128 = buf (Ring.sl 2 t.val) 1 :=
  buf_congr (coff25 t h) _
@[sl_canon] theorem canon6w (t : Fin grid0.N) :
    (cc0_scratch2.slice (Rect.unit (s := S2x2) (k0_off6 (grid0.coords t)) S1x1.size (k0_off6_inb (grid0.coords t)))).squeeze S_ squeezes_S1x1_S_ = wr (Ring.sl 2 t.val) 0 :=
  wr_congr (coff6 t) _
@[sl_canon] theorem canon9w (t : Fin grid0.N) :
    (cc0_scratch2.slice (Rect.unit (s := S2x2) (k0_off9 (grid0.coords t)) S1x1.size (k0_off9_inb (grid0.coords t)))).squeeze S_ squeezes_S1x1_S_ = wr (Ring.sl 2 t.val) 1 :=
  wr_congr (coff9 t) _
@[sl_canon] theorem canon21' (t : Fin grid0.N) (h : cond4 (grid0.coords t)) :
    (cc0_scratch2.slice (Rect.unit (s := S2x2) (k0_off21 (grid0.coords t)) ![1, 1] (k0_off21_inb (grid0.coords t) h))).squeeze S_ squeezes_S1x1_S_ = wr (Ring.sl 2 t.val) 0 :=
  wr_congr (coff21 t h) _
@[sl_canon] theorem canon22' (M : Memref sig .tc .hbm S132000x8x128 .fp8e4m3) (t : Fin grid0.N) (h : cond4 (grid0.coords t)) :
    M.slice (Rect.unit (s := S132000x8x128) (k0_off22 (grid0.coords t)) ![3488, 8, 128] (k0_off22_inb (grid0.coords t) h)) (fun _ => rfl) = piece M t.val :=
  piece_congr M (coff22 t h) _
@[sl_canon] theorem canon23' (t : Fin grid0.N) (h : cond4 (grid0.coords t)) :
    (scM.slice (Rect.unit (s := S2x2x3488x8x128) (k0_off23 (grid0.coords t)) ![1, 1, 3488, 8, 128] (k0_off23_inb (grid0.coords t) h)) (fun _ => rfl)).squeeze S3488x8x128 squeezes_S1x1x3488x8x128_S3488x8x128 = buf (Ring.sl 2 t.val) 0 :=
  buf_congr (coff23 t h) _
@[sl_canon] theorem canon24' (t : Fin grid0.N) (h : cond4 (grid0.coords t)) :
    (cc0_scratch2.slice (Rect.unit (s := S2x2) (k0_off24 (grid0.coords t)) ![1, 1] (k0_off24_inb (grid0.coords t) h))).squeeze S_ squeezes_S1x1_S_ = wr (Ring.sl 2 t.val) 1 :=
  wr_congr (coff24 t h) _
@[sl_canon] theorem canon25' (t : Fin grid0.N) (h : cond4 (grid0.coords t)) :
    (scM.slice (Rect.unit (s := S2x2x3488x8x128) (k0_off25 (grid0.coords t)) ![1, 1, 3488, 8, 128] (k0_off25_inb (grid0.coords t) h)) (fun _ => rfl)).squeeze S3488x8x128 squeezes_S1x1x3488x8x128_S3488x8x128 = buf (Ring.sl 2 t.val) 1 :=
  buf_congr (coff25 t h) _
end Canon

/-! ## What is held of them -/

section Held
variable (c : Dev nD)
/-- Slot `s` of pool `p` held at `e`; a piece of a pool held at `f`; the rest of the pool (a `def`: no run reads it). -/
abbrev bufP (s p : Fin 2) (e : HbBuf (F := F) c (buf s p)) : sProp 𝕄 := (buf s p).view.loc (c : Thread nD τ) ↦[(buf s p).view.set]{fullShare} e
abbrev pieceP (M : Memref sig .tc .hbm S132000x8x128 .fp8e4m3) (b : ℕ) (f : HbBuf (F := F) c (piece M b)) : sProp 𝕄 :=
  (piece M b).view.loc (c : Thread nD τ) ↦[(piece M b).view.set]{fullShare} f
/-- Slot `s` of pool `p` held at whatever it holds. -/
abbrev anyBufP (s p : Fin 2) : sProp 𝕄 := iprop(∃ e, bufP (F := F) c s p e)
def restP (M : Memref sig .tc .hbm S132000x8x128 .fp8e4m3) (b : ℕ) (f : HbBuf (F := F) c M) : sProp 𝕄 :=
  M.view.loc (c : Thread nD τ) ↦[Finset.univ \ (piece M b).view.set]{fullShare} f
abbrev rdP (s p : Fin 2) : sProp 𝕄 := semVal ((c : Thread nD τ), rdR s p) 0
abbrev wrP (s p : Fin 2) : sProp 𝕄 := semVal ((c : Thread nD τ), wrR s p) 0
/-- A pool whole at `f` is a piece of it and the rest. -/
theorem piece_split (M : Memref sig .tc .hbm S132000x8x128 .fp8e4m3) (b : ℕ) (f : HbBuf (F := F) c M) :
    (hbPt c M f : sProp 𝕄) ⊣⊢ iprop(pieceP c M b f ∗ restP c M b f) := by
  unfold restP; exact pointsTo_split_subset (Finset.subset_univ _)
/-- A piece at some contents and the rest at some contents are the pool at some contents. -/
theorem piece_join (M : Memref sig .tc .hbm S132000x8x128 .fp8e4m3) (b : ℕ) :
    (iprop((∃ f, pieceP (F := F) c M b f) ∗ ∃ g, restP (F := F) c M b g) : sProp 𝕄) ⊢ iprop(∃ f, hbPt c M f) := by
  unfold restP
  iintro ⟨⟨%f, Hf⟩, ⟨%g, Hg⟩⟩
  iexists _
  iapply (pointsTo_join_subset (I := (piece M b).view.set) (Finset.subset_univ _))
  isplitl [Hf]; · iexact Hf
  iexact Hg
/-- The read of piece `b` into slot `s` in flight, and the rest of the pool beside it; -/
abbrev readP (M : Memref sig .tc .hbm S132000x8x128 .fp8e4m3) (W : HbBuf (F := F) c M) (s p : Fin 2) (b : ℕ) : sProp 𝕄 :=
  iprop(∃ e, Transfers.Flight countersEmb (c : Thread nD τ) (rdR s p) default ((buf s p).view.amount (rdR s p)) iprop(bufP c s p e ∗ pieceP c M b W))
/-- the write of slot `s` to piece `b` in flight. -/
abbrev writeP (M : Memref sig .tc .hbm S132000x8x128 .fp8e4m3) (s p : Fin 2) (b : ℕ) : sProp 𝕄 :=
  iprop(∃ f e, Transfers.Flight countersEmb (c : Thread nD τ) (wrR s p) default ((piece M b).view.amount (wrR s p)) iprop(pieceP (F := F) c M b f ∗ bufP c s p e))
/-- With a piece and the rest in hand, another piece can be taken instead. -/
theorem turn (M : Memref sig .tc .hbm S132000x8x128 .fp8e4m3) (b b' : ℕ) (W : HbBuf (F := F) c M) :
    (iprop(pieceP c M b W ∗ restP c M b W) : sProp 𝕄) ⊢ iprop(pieceP c M b' W ∗ restP c M b' W) :=
  (piece_split c M b W).2.trans (piece_split c M b' W).1
/-- The same of a pool whose contents nothing names. -/
theorem turn_out (M : Memref sig .tc .hbm S132000x8x128 .fp8e4m3) (b b' : ℕ) :
    (iprop((∃ f, pieceP (F := F) c M b f) ∗ ∃ g, restP (F := F) c M b g) : sProp 𝕄) ⊢ iprop(∃ f, pieceP (F := F) c M b' f ∗ restP (F := F) c M b' f) := by
  refine (piece_join c M b).trans ?_
  iintro ⟨%f, H⟩
  iexists f
  iapply (piece_split c M b' f).1
  iexact H
end Held

/-! ## The four slots of the scratch -/

abbrev bufOff (i : Fin 2 × Fin 2) : Fin 5 → Nat := ![i.1.val, i.2.val, 0, 0, 0]
theorem inb_buf' (i : Fin 2 × Fin 2) : ∀ a, bufOff i a + S1x1x3488x8x128.size a ≤ S2x2x3488x8x128.size a := inb_buf i.1 i.2
abbrev bufSet (i : Fin 2 × Fin 2) : Finset S2x2x3488x8x128.Idx := (Rect.unit (s := S2x2x3488x8x128) (bufOff i) S1x1x3488x8x128.size (inb_buf' i)).set
theorem bufSet_eq (s p : Fin 2) : (buf s p).view.set = bufSet (s, p) := by
  simp only [buf, Memref.view_squeeze, View.set_reshape]; exact View.set_slice_whole _ _
/-- A slot's place, and the slot at a place. -/
def bufIx (i : Fin 2 × Fin 2) : Fin 5 → ℕ := ![i.1.val, i.2.val, 0, 0, 0]
def bufUn (v : Fin 5 → ℕ) : Fin 2 × Fin 2 := (Fin.ofNat 2 (v 0), Fin.ofNat 2 (v 1))
theorem bufUn_left : ∀ i : Fin 2 × Fin 2, bufUn (bufIx i) = i := by decide +kernel
theorem bufs_disjoint (i i' : Fin 2 × Fin 2) (h : i ≠ i') : Disjoint (bufSet i) (bufSet i') :=
  Ring.boxes_disjoint (s := S2x2x3488x8x128) S1x1x3488x8x128.size bufOff inb_buf' bufIx
    (fun i a => by fin_cases a <;> simp [bufOff, bufIx] <;> omega) bufUn bufUn_left i i' h
section Scratch
variable (c : Dev nD)
theorem bufP_eq (s p : Fin 2) (e) : bufP (F := F) c s p e = (((c : Thread nD τ).loc cc0_scratch0) ↦[bufSet (s, p)]{fullShare} e : sProp 𝕄) := by
  unfold bufP; rw [bufSet_eq]; rfl
/-- The scratch's elements outside every slot (none, but nothing needs that). -/
abbrev spareP : sProp 𝕄 := iprop(∃ f : Buf (Elt F) ((c : Thread nD τ).loc cc0_scratch0), ((c : Thread nD τ).loc cc0_scratch0) ↦[Finset.univ \ Finset.univ.biUnion bufSet]{fullShare} f)
/-- The four slots, each at some contents. -/
abbrev bufsP : sProp 𝕄 := iprop((∃ e, bufP (F := F) c 0 0 e) ∗ (∃ e, bufP (F := F) c 0 1 e) ∗ (∃ e, bufP (F := F) c 1 0 e) ∗ (∃ e, bufP (F := F) c 1 1 e))
theorem bufsP_eq : (bigSep Finset.univ (fun i : Fin 2 × Fin 2 => iprop(∃ e, bufP (F := F) c i.1 i.2 e)) : sProp 𝕄) = bufsP c := by
  rw [BI.bigSep_eq_bigSepL_of_eq [(0, 0), (0, 1), (1, 0), (1, 1)] (by decide) (by decide)]; rfl
/-- The scratch whole is its four slots and the spare elements, and back. -/
theorem bufs_in : iprop(∃ d, owns (c : Thread nD τ) scM fullShare d) ⊢ (iprop(bufsP (F := F) c ∗ spareP c) : sProp 𝕄) := by
  rw [← bufsP_eq]
  simp only [scM, owns_whole]
  exact Ring.pieces_split_spare (U := Pipeline.UD sig nD τ) (ℓ := (c : Thread nD τ).loc cc0_scratch0) (q := fullShare) bufSet bufs_disjoint
    (fun i e => bufP c i.1 i.2 e) (fun i e => bufP_eq c i.1 i.2 e)
theorem bufs_out : (iprop(bufsP (F := F) c ∗ spareP c) : sProp 𝕄) ⊢ iprop(∃ d, owns (c : Thread nD τ) scM fullShare d) := by
  rw [← bufsP_eq]
  simp only [scM, owns_whole]
  exact Ring.pieces_join_spare (U := Pipeline.UD sig nD τ) (ℓ := (c : Thread nD τ).loc cc0_scratch0) (q := fullShare) bufSet bufs_disjoint
    (fun i e => bufP c i.1 i.2 e) (fun i e => bufP_eq c i.1 i.2 e)
end Scratch

/-- The slot of a point is the slot of the point after the next. -/
theorem sl_two (k : ℕ) : Ring.sl 2 (k + 1 + 1) = Ring.sl 2 k := by
  apply Fin.ext; show (k + 1 + 1) % 2 = k % 2; omega

/-! ## The ring between two points -/

/-- Before point `k`, away from the ends: both pools' pieces `k` being read into the slot of `k`, pieces `k - 1` being
    written from the other slot, and the four idle cells at zero. -/
def movingP (c : Dev nD) (W5 : HbBuf (F := F) c kIn) (W6 : HbBuf (F := F) c vIn) (k : ℕ) : sProp 𝕄 :=
  iprop(readP c kIn W5 (Ring.sl 2 k) 0 k ∗ readP c vIn W6 (Ring.sl 2 k) 1 k ∗ restP c kIn k W5 ∗ restP c vIn k W6
    ∗ writeP (F := F) c kOut (Ring.sl 2 (k + 1)) 0 (k - 1) ∗ writeP (F := F) c vOut (Ring.sl 2 (k + 1)) 1 (k - 1)
    ∗ (∃ g, restP (F := F) c kOut (k - 1) g) ∗ (∃ g, restP (F := F) c vOut (k - 1) g)
    ∗ rdP (F := F) c (Ring.sl 2 (k + 1)) 0 ∗ rdP (F := F) c (Ring.sl 2 (k + 1)) 1 ∗ wrP (F := F) c (Ring.sl 2 k) 0 ∗ wrP (F := F) c (Ring.sl 2 k) 1)

/-- Before the first point and after the last: the four slots, the eight cells at zero, the pools and the output pools whole. -/
def homeP (c : Dev nD) (W5 : HbBuf (F := F) c kIn) (W6 : HbBuf (F := F) c vIn) (k : ℕ) : sProp 𝕄 :=
  iprop(anyBufP (F := F) c (Ring.sl 2 k) 0 ∗ anyBufP (F := F) c (Ring.sl 2 k) 1 ∗ anyBufP (F := F) c (Ring.sl 2 (k + 1)) 0 ∗ anyBufP (F := F) c (Ring.sl 2 (k + 1)) 1
    ∗ rdP (F := F) c (Ring.sl 2 k) 0 ∗ rdP (F := F) c (Ring.sl 2 k) 1 ∗ rdP (F := F) c (Ring.sl 2 (k + 1)) 0 ∗ rdP (F := F) c (Ring.sl 2 (k + 1)) 1
    ∗ wrP (F := F) c (Ring.sl 2 k) 0 ∗ wrP (F := F) c (Ring.sl 2 k) 1 ∗ wrP (F := F) c (Ring.sl 2 (k + 1)) 0 ∗ wrP (F := F) c (Ring.sl 2 (k + 1)) 1
    ∗ hbPt c kIn W5 ∗ hbPt c vIn W6 ∗ (∃ f, hbPt (F := F) c kOut f) ∗ (∃ f, hbPt (F := F) c vOut f))

/-! ## The blocks the products read -/

section Inputs
variable (c : Dev nD) (arg2 : Memref sig .tc .vmem S2560x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole)
  (x0 : Vec F S2560x2560 .bf16) (x1 : Vec F S2560x512 .fp8e4m3) (x2 : Vec F S2560x512 .fp8e4m3) (x3 : Vec F S1x512 .f32) (x4 : Vec F S1x512 .f32)
/-- The five input blocks, as the pipeline hands them over; -/
def insP : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4)
/-- a block as the body reads it; -/
abbrev blkP {S : Shape} {e : EltTy} (M : Memref sig .tc .vmem S e) (hM : M.IsWhole) (x : Vec F S e) : sProp 𝕄 :=
  M.view.loc (c : Thread nD τ) ↦[M.view.set]{fullShare} (hM.unread x : HbBuf (F := F) c M)
/-- and the five so. -/
abbrev insPts : sProp 𝕄 :=
  iprop(blkP c arg2 harg2 x0 ∗ blkP c arg3 harg3 x1 ∗ blkP c arg4 harg4 x2 ∗ blkP c arg5 harg5 x3 ∗ blkP c arg6 harg6 x4)
theorem owns_open {S : Shape} {e : EltTy} (M : Memref sig .tc .vmem S e) (hM : M.IsWhole) (x : Vec F S e) :
    (owns (c : Thread nD τ) M fullShare x : sProp 𝕄) ⊢ blkP c M hM x := by
  unfold owns
  iintro ⟨%f, %hf, H⟩
  obtain rfl := hM.eq_unread hf
  iexact H
theorem owns_close {S : Shape} {e : EltTy} (M : Memref sig .tc .vmem S e) (hM : M.IsWhole) (x : Vec F S e) :
    (blkP c M hM x : sProp 𝕄) ⊢ owns (c : Thread nD τ) M fullShare x := by
  unfold owns
  iintro H
  iexists _; isplitr; · ipureintro; exact hM.read_unread _
  iexact H
theorem ins_open : (insP c arg2 arg3 arg4 arg5 arg6 x0 x1 x2 x3 x4 : sProp 𝕄) ⊢ insPts c arg2 harg2 arg3 harg3 arg4 harg4 arg5 harg5 arg6 harg6 x0 x1 x2 x3 x4 :=
  BIClass.sep_mono (owns_open c arg2 harg2 x0) (BIClass.sep_mono (owns_open c arg3 harg3 x1) (BIClass.sep_mono (owns_open c arg4 harg4 x2) (BIClass.sep_mono (owns_open c arg5 harg5 x3) (owns_open c arg6 harg6 x4))))
theorem ins_close : (insPts c arg2 harg2 arg3 harg3 arg4 harg4 arg5 harg5 arg6 harg6 x0 x1 x2 x3 x4 : sProp 𝕄) ⊢ insP c arg2 arg3 arg4 arg5 arg6 x0 x1 x2 x3 x4 :=
  BIClass.sep_mono (owns_close c arg2 harg2 x0) (BIClass.sep_mono (owns_close c arg3 harg3 x1) (BIClass.sep_mono (owns_close c arg4 harg4 x2) (BIClass.sep_mono (owns_close c arg5 harg5 x3) (owns_close c arg6 harg6 x4))))
end Inputs

end Cert.GateUpIdeal.Hand

end
-- ==== Proof.GateUpRunB.lean ====
module

public import proofs.«01_k».proof.Proof.GateUpRing

/-!
# One grid point of `gate_up`, away from the ends
-/

@[expose] public section

set_option maxRecDepth 16384

noncomputable section

namespace Cert.GateUpIdeal.Hand

open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 600000 in
/-- The body at a point that is neither the first nor the last: the ring moves on by one piece, the inputs' blocks
    stay, and the block of the result is written in the listed pieces. -/
noncomputable def run_B (c : Dev nD) (t : Fin cfg0.N) (arg2 : Memref sig .tc .vmem S2560x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg9 : Memref sig .tc .vmem S2560x512 .bf16) (harg9 : arg9.IsWhole)
    (hc1 : ¬cond1 (grid0.coords t)) (hc2 : cond2 (grid0.coords t)) (hc3 : cond3 (grid0.coords t)) (hc4 : ¬cond4 (grid0.coords t))
    (x0 : Vec F S2560x2560 .bf16) (x1 : Vec F S2560x512 .fp8e4m3) (x2 : Vec F S2560x512 .fp8e4m3) (x3 : Vec F S1x512 .f32) (x4 : Vec F S1x512 .f32) (W5 : HbBuf (F := F) c kIn) (W6 : HbBuf (F := F) c vIn) :
    { L : List (View.Piece (Elt F) S2560x512 .bf16) //
      ∀ (W : Waits sig Unit) (K : PUnit → sProp 𝕄),
        iprop(insP c arg2 arg3 arg4 arg5 arg6 x0 x1 x2 x3 x4 ∗ (∃ d, owns (c : Thread nD τ) arg9 fullShare d) ∗ movingP c W5 W6 t.val ∗ owes (c : Thread nD τ) 0 W
            ∗ (iprop(insP c arg2 arg3 arg4 arg5 arg6 x0 x1 x2 x3 x4 ∗ (∃ f, arg9.view.loc (c : Thread nD τ) ↦[arg9.view.set]{fullShare} arg9.view.writes (Elt F) f L)
                ∗ movingP c W5 W6 (t.val + 1) ∗ (∃ W', owes (c : Thread nD τ) 0 W')) -∗ K ⟨⟩))
          ⊢ wp frame (wpE (defs₀ (F := F)) Variants.none c none) Set.univ (cc0_gate_up (grid0.coords t) arg2 harg2 arg3 harg3 arg4 harg4 arg5 harg5 arg6 harg6 kIn (Memref.isWhole_whole _) vIn (Memref.isWhole_whole _) arg9 harg9 kOut (Memref.isWhole_whole _) vOut (Memref.isWhole_whole _) scM (Memref.isWhole_whole _) cc0_scratch1 cc0_scratch2) K } := by
  refine ⟨?_, fun W K => ?run⟩
  case run =>
    haveI : Fact (¬cond1 (grid0.coords t)) := ⟨hc1⟩
    haveI : Fact (cond2 (grid0.coords t)) := ⟨hc2⟩
    haveI : Fact (cond3 (grid0.coords t)) := ⟨hc3⟩
    haveI : Fact (¬cond4 (grid0.coords t)) := ⟨hc4⟩
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold movingP
    simp only [sl_two]
    iintro ⟨HI, ⟨%d9, H9⟩, ⟨⟨%er0, Hr0⟩, ⟨%er1, Hr1⟩, Hi0, Hi1, ⟨%fw0, %ew0, Hw0⟩, ⟨%fw1, %ew1, Hw1⟩, ⟨%go0, Ho0⟩, ⟨%go1, Ho1⟩, Hcr0, Hcr1, Hcw0, Hcw1⟩, HW, Hk⟩
    ihave HI := (ins_open c arg2 harg2 arg3 harg3 arg4 harg4 arg5 harg5 arg6 harg6 x0 x1 x2 x3 x4) $$ HI
    icases HI with ⟨H0, H1, H2, H3, H4⟩
    unfold owns
    icases H9 with ⟨%f9, -, H9⟩
    sl_exec (disch := first | sl_exact hc1 | sl_exact hc2 | sl_exact hc3 | sl_exact hc4)
    ihave HpK := (turn c kIn t.val (t.val + 1) W5) $$ [Hr0_src Hi0]
    · isplitl [Hr0_src]; · iexact Hr0_src
      iexact Hi0
    icases HpK with ⟨HpK, Hi0⟩
    ihave HpV := (turn c vIn t.val (t.val + 1) W6) $$ [Hr1_src Hi1]
    · isplitl [Hr1_src]; · iexact Hr1_src
      iexact Hi1
    icases HpV with ⟨HpV, Hi1⟩
    ihave HoK := (turn_out (F := F) c kOut (t.val - 1) t.val) $$ [Hw0_dst Ho0]
    · isplitl [Hw0_dst]; · iexists _; iexact Hw0_dst
      iexists _; iexact Ho0
    icases HoK with ⟨%gK, HoK, Ho0⟩
    ihave HoV := (turn_out (F := F) c vOut (t.val - 1) t.val) $$ [Hw1_dst Ho1]
    · isplitl [Hw1_dst]; · iexists _; iexact Hw1_dst
      iexists _; iexact Ho1
    icases HoV with ⟨%gV, HoV, Ho1⟩
    sl_exec (disch := first | sl_exact hc1 | sl_exact hc2 | sl_exact hc3 | sl_exact hc4)
    sl_step
    iapply Hk
    isplitl [H0 H1 H2 H3 H4]
    · iapply (ins_close c arg2 harg2 arg3 harg3 arg4 harg4 arg5 harg5 arg6 harg6 x0 x1 x2 x3 x4)
      isplitl [H0]; · iexact H0
      isplitl [H1]; · iexact H1
      isplitl [H2]; · iexact H2
      isplitl [H3]; · iexact H3
      iexact H4
    isplitl [H9]; · iexists _; iexact H9
    isplitr [HW]; swap; · iexists _; iexact HW
    isplitl [Hcr0]; · iexists _; iexact Hcr0
    isplitl [Hcr1]; · iexists _; iexact Hcr1
    isplitl [Hi0]; · iexact Hi0
    isplitl [Hi1]; · iexact Hi1
    isplitl [Hcw0]; · iexists _, _; iexact Hcw0
    isplitl [Hcw1]; · iexists _, _; iexact Hcw1
    isplitl [Ho0]; · iexists _; iexact Ho0
    isplitl [Ho1]; · iexists _; iexact Ho1
    isplitl [Hr0]; · iexact Hr0
    isplitl [Hr1]; · iexact Hr1
    isplitl [Hw0]; · iexact Hw0
    iexact Hw1

end Cert.GateUpIdeal.Hand

end
-- ==== Proof.GateUpRunA.lean ====
module

public import proofs.«01_k».proof.Proof.GateUpRunB

/-!
# The first grid point of `gate_up`
-/

@[expose] public section

set_option maxRecDepth 16384

noncomputable section

namespace Cert.GateUpIdeal.Hand

open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 600000 in
/-- The body at the first point: it starts the first reads, awaits them, and starts the ring. -/
noncomputable def run_A (c : Dev nD) (t : Fin cfg0.N) (arg2 : Memref sig .tc .vmem S2560x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg9 : Memref sig .tc .vmem S2560x512 .bf16) (harg9 : arg9.IsWhole)
    (hc1 : cond1 (grid0.coords t)) (hc2 : ¬cond2 (grid0.coords t)) (hc3 : cond3 (grid0.coords t)) (hc4 : ¬cond4 (grid0.coords t))
    (x0 : Vec F S2560x2560 .bf16) (x1 : Vec F S2560x512 .fp8e4m3) (x2 : Vec F S2560x512 .fp8e4m3) (x3 : Vec F S1x512 .f32) (x4 : Vec F S1x512 .f32) (W5 : HbBuf (F := F) c kIn) (W6 : HbBuf (F := F) c vIn) :
    { L : List (View.Piece (Elt F) S2560x512 .bf16) //
      ∀ (W : Waits sig Unit) (K : PUnit → sProp 𝕄),
        iprop(insP c arg2 arg3 arg4 arg5 arg6 x0 x1 x2 x3 x4 ∗ (∃ d, owns (c : Thread nD τ) arg9 fullShare d) ∗ homeP c W5 W6 t.val ∗ owes (c : Thread nD τ) 0 W
            ∗ (iprop(insP c arg2 arg3 arg4 arg5 arg6 x0 x1 x2 x3 x4 ∗ (∃ f, arg9.view.loc (c : Thread nD τ) ↦[arg9.view.set]{fullShare} arg9.view.writes (Elt F) f L)
                ∗ movingP c W5 W6 (t.val + 1) ∗ (∃ W', owes (c : Thread nD τ) 0 W')) -∗ K ⟨⟩))
          ⊢ wp frame (wpE (defs₀ (F := F)) Variants.none c none) Set.univ (cc0_gate_up (grid0.coords t) arg2 harg2 arg3 harg3 arg4 harg4 arg5 harg5 arg6 harg6 kIn (Memref.isWhole_whole _) vIn (Memref.isWhole_whole _) arg9 harg9 kOut (Memref.isWhole_whole _) vOut (Memref.isWhole_whole _) scM (Memref.isWhole_whole _) cc0_scratch1 cc0_scratch2) K } := by
  refine ⟨?_, fun W K => ?run⟩
  case run =>
    haveI : Fact (cond1 (grid0.coords t)) := ⟨hc1⟩
    haveI : Fact (¬cond2 (grid0.coords t)) := ⟨hc2⟩
    haveI : Fact (cond3 (grid0.coords t)) := ⟨hc3⟩
    haveI : Fact (¬cond4 (grid0.coords t)) := ⟨hc4⟩
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold homeP movingP
    simp only [sl_two]
    iintro ⟨HI, ⟨%d9, H9⟩, ⟨⟨%es0, Hs0⟩, ⟨%es1, Hs1⟩, ⟨%en0, Hn0⟩, ⟨%en1, Hn1⟩, Hr0, Hr1, Hcr0, Hcr1, Hcw0, Hcw1, Hw0, Hw1, HpK, HpV, ⟨%gK, HoK⟩, ⟨%gV, HoV⟩⟩, HW, Hk⟩
    ihave HI := (ins_open c arg2 harg2 arg3 harg3 arg4 harg4 arg5 harg5 arg6 harg6 x0 x1 x2 x3 x4) $$ HI
    icases HI with ⟨H0, H1, H2, H3, H4⟩
    unfold owns
    icases H9 with ⟨%f9, -, H9⟩
    ihave HpK := (piece_split c kIn t.val W5).1 $$ HpK
    icases HpK with ⟨HpK, Hi0⟩
    ihave HpV := (piece_split c vIn t.val W6).1 $$ HpV
    icases HpV with ⟨HpV, Hi1⟩
    ihave HoK := (piece_split c kOut t.val gK).1 $$ HoK
    icases HoK with ⟨HoK, Ho0⟩
    ihave HoV := (piece_split c vOut t.val gV).1 $$ HoV
    icases HoV with ⟨HoV, Ho1⟩
    sl_exec (disch := first | sl_exact hc1 | sl_exact hc2 | sl_exact hc3 | sl_exact hc4)
    ihave HpK := (turn c kIn t.val (t.val + 1) W5) $$ [HpK Hi0]
    · isplitl [HpK]; · iexact HpK
      iexact Hi0
    icases HpK with ⟨HpK, Hi0⟩
    ihave HpV := (turn c vIn t.val (t.val + 1) W6) $$ [HpV Hi1]
    · isplitl [HpV]; · iexact HpV
      iexact Hi1
    icases HpV with ⟨HpV, Hi1⟩
    sl_exec (disch := first | sl_exact hc1 | sl_exact hc2 | sl_exact hc3 | sl_exact hc4)
    sl_step
    iapply Hk
    isplitl [H0 H1 H2 H3 H4]
    · iapply (ins_close c arg2 harg2 arg3 harg3 arg4 harg4 arg5 harg5 arg6 harg6 x0 x1 x2 x3 x4)
      isplitl [H0]; · iexact H0
      isplitl [H1]; · iexact H1
      isplitl [H2]; · iexact H2
      isplitl [H3]; · iexact H3
      iexact H4
    isplitl [H9]; · iexists _; iexact H9
    isplitr [HW]; swap; · iexists _; iexact HW
    isplitl [Hcr0]; · iexists _; iexact Hcr0
    isplitl [Hcr1]; · iexists _; iexact Hcr1
    isplitl [Hi0]; · iexact Hi0
    isplitl [Hi1]; · iexact Hi1
    isplitl [Hcw0]; · iexists _, _; iexact Hcw0
    isplitl [Hcw1]; · iexists _, _; iexact Hcw1
    isplitl [Ho0]; · iexists _; iexact Ho0
    isplitl [Ho1]; · iexists _; iexact Ho1
    isplitl [Hr0]; · iexact Hr0
    isplitl [Hr1]; · iexact Hr1
    isplitl [Hw0]; · iexact Hw0
    iexact Hw1

end Cert.GateUpIdeal.Hand

end
-- ==== Proof.GateUpRunC.lean ====
module

public import proofs.«01_k».proof.Proof.GateUpRunB

/-!
# The last grid point of `gate_up`
-/

@[expose] public section

set_option maxRecDepth 16384

noncomputable section

namespace Cert.GateUpIdeal.Hand

open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 600000 in
/-- The body at the last point: it awaits the writes of the point before and its own, and everything is home. -/
noncomputable def run_C (c : Dev nD) (t : Fin cfg0.N) (arg2 : Memref sig .tc .vmem S2560x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg9 : Memref sig .tc .vmem S2560x512 .bf16) (harg9 : arg9.IsWhole)
    (hc1 : ¬cond1 (grid0.coords t)) (hc2 : cond2 (grid0.coords t)) (hc3 : ¬cond3 (grid0.coords t)) (hc4 : cond4 (grid0.coords t))
    (x0 : Vec F S2560x2560 .bf16) (x1 : Vec F S2560x512 .fp8e4m3) (x2 : Vec F S2560x512 .fp8e4m3) (x3 : Vec F S1x512 .f32) (x4 : Vec F S1x512 .f32) (W5 : HbBuf (F := F) c kIn) (W6 : HbBuf (F := F) c vIn) :
    { L : List (View.Piece (Elt F) S2560x512 .bf16) //
      ∀ (W : Waits sig Unit) (K : PUnit → sProp 𝕄),
        iprop(insP c arg2 arg3 arg4 arg5 arg6 x0 x1 x2 x3 x4 ∗ (∃ d, owns (c : Thread nD τ) arg9 fullShare d) ∗ movingP c W5 W6 t.val ∗ owes (c : Thread nD τ) 0 W
            ∗ (iprop(insP c arg2 arg3 arg4 arg5 arg6 x0 x1 x2 x3 x4 ∗ (∃ f, arg9.view.loc (c : Thread nD τ) ↦[arg9.view.set]{fullShare} arg9.view.writes (Elt F) f L)
                ∗ homeP c W5 W6 (t.val + 1) ∗ (∃ W', owes (c : Thread nD τ) 0 W')) -∗ K ⟨⟩))
          ⊢ wp frame (wpE (defs₀ (F := F)) Variants.none c none) Set.univ (cc0_gate_up (grid0.coords t) arg2 harg2 arg3 harg3 arg4 harg4 arg5 harg5 arg6 harg6 kIn (Memref.isWhole_whole _) vIn (Memref.isWhole_whole _) arg9 harg9 kOut (Memref.isWhole_whole _) vOut (Memref.isWhole_whole _) scM (Memref.isWhole_whole _) cc0_scratch1 cc0_scratch2) K } := by
  refine ⟨?_, fun W K => ?run⟩
  case run =>
    haveI : Fact (¬cond1 (grid0.coords t)) := ⟨hc1⟩
    haveI : Fact (cond2 (grid0.coords t)) := ⟨hc2⟩
    haveI : Fact (¬cond3 (grid0.coords t)) := ⟨hc3⟩
    haveI : Fact (cond4 (grid0.coords t)) := ⟨hc4⟩
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold homeP movingP
    simp only [sl_two]
    iintro ⟨HI, ⟨%d9, H9⟩, ⟨⟨%er0, Hr0⟩, ⟨%er1, Hr1⟩, Hi0, Hi1, ⟨%fw0, %ew0, Hw0⟩, ⟨%fw1, %ew1, Hw1⟩, ⟨%go0, Ho0⟩, ⟨%go1, Ho1⟩, Hcr0, Hcr1, Hcw0, Hcw1⟩, HW, Hk⟩
    ihave HI := (ins_open c arg2 harg2 arg3 harg3 arg4 harg4 arg5 harg5 arg6 harg6 x0 x1 x2 x3 x4) $$ HI
    icases HI with ⟨H0, H1, H2, H3, H4⟩
    unfold owns
    icases H9 with ⟨%f9, -, H9⟩
    sl_exec (disch := first | sl_exact hc1 | sl_exact hc2 | sl_exact hc3 | sl_exact hc4)
    ihave HoK := (turn_out (F := F) c kOut (t.val - 1) t.val) $$ [Hw0_dst Ho0]
    · isplitl [Hw0_dst]; · iexists _; iexact Hw0_dst
      iexists _; iexact Ho0
    icases HoK with ⟨%gK, HoK, Ho0⟩
    ihave HoV := (turn_out (F := F) c vOut (t.val - 1) t.val) $$ [Hw1_dst Ho1]
    · isplitl [Hw1_dst]; · iexists _; iexact Hw1_dst
      iexists _; iexact Ho1
    icases HoV with ⟨%gV, HoV, Ho1⟩
    sl_exec (disch := first | sl_exact hc1 | sl_exact hc2 | sl_exact hc3 | sl_exact hc4)
    sl_step
    iapply Hk
    isplitl [H0 H1 H2 H3 H4]
    · iapply (ins_close c arg2 harg2 arg3 harg3 arg4 harg4 arg5 harg5 arg6 harg6 x0 x1 x2 x3 x4)
      isplitl [H0]; · iexact H0
      isplitl [H1]; · iexact H1
      isplitl [H2]; · iexact H2
      isplitl [H3]; · iexact H3
      iexact H4
    isplitl [H9]; · iexists _; iexact H9
    isplitr [HW]; swap; · iexists _; iexact HW
    isplitl [Hw0_src]; · iexists _; iexact Hw0_src
    isplitl [Hw1_src]; · iexists _; iexact Hw1_src
    isplitl [Hr0_dst]; · iexists _; iexact Hr0_dst
    isplitl [Hr1_dst]; · iexists _; iexact Hr1_dst
    isplitl [Hcr0]; · iexact Hcr0
    isplitl [Hcr1]; · iexact Hcr1
    isplitl [Hr0]; · iexact Hr0
    isplitl [Hr1]; · iexact Hr1
    isplitl [Hw0]; · iexact Hw0
    isplitl [Hw1]; · iexact Hw1
    isplitl [Hcw0]; · iexact Hcw0
    isplitl [Hcw1]; · iexact Hcw1
    isplitl [Hr0_src Hi0]
    · iapply (piece_split c kIn t.val W5).2; isplitl [Hr0_src]; · iexact Hr0_src
      iexact Hi0
    isplitl [Hr1_src Hi1]
    · iapply (piece_split c vIn t.val W6).2; isplitl [Hr1_src]; · iexact Hr1_src
      iexact Hi1
    isplitl [HoK Ho0]
    · iapply (piece_join (F := F) c kOut t.val); isplitl [HoK]; · iexists _; iexact HoK
      iexists _; iexact Ho0
    iapply (piece_join (F := F) c vOut t.val); isplitl [HoV]; · iexists _; iexact HoV
    iexists _; iexact Ho1

end Cert.GateUpIdeal.Hand

end
-- ==== Proof.GateUpStores.lean ====
module

public import proofs.«01_k».proof.Proof.GateUpRunA
public import proofs.«01_k».proof.Proof.GateUpRunC

/-!
# The block a grid point of `gate_up` leaves

The five pieces of rows the body stores into its block of the result, read off the three runs: they are the same at
the first point, between, and at the last, and they cover the block.
-/

@[expose] public section

set_option maxRecDepth 16384

noncomputable section

namespace Cert.GateUpIdeal.Hand

open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The pieces a grid point stores: five groups of 512 rows, from the rows of the operand and the blocks of the weights
    and scales (the latest store first). -/
def actPieces (x0 : Vec F S2560x2560 .bf16) (x1 x2 : Vec F S2560x512 .fp8e4m3) (x3 x4 : Vec F S1x512 .f32) : List (View.Piece (Elt F) S2560x512 .bf16) :=
  [⟨Rect.unit (s := S2560x512) ![2048, 0] ![512, 512] inb_S2560x512_S512x512_2048_0, k0_pay2 (View.ld x0 (Rect.unit ![2048, 0] ![512, 2560] inb_S2560x2560_S512x2560_2048_0)) (View.ld x1 (Rect.unit ![0, 0] ![2560, 512] inb_S2560x512_S2560x512_0_0)) (View.ld x3 (Rect.unit ![0, 0] ![1, 512] inb_S1x512_S1x512_0_0)) (View.ld x0 (Rect.unit ![2048, 0] ![512, 2560] inb_S2560x2560_S512x2560_2048_0)) (View.ld x2 (Rect.unit ![0, 0] ![2560, 512] inb_S2560x512_S2560x512_0_0)) (View.ld x4 (Rect.unit ![0, 0] ![1, 512] inb_S1x512_S1x512_0_0))⟩,
   ⟨Rect.unit (s := S2560x512) ![1536, 0] ![512, 512] inb_S2560x512_S512x512_1536_0, k0_pay1 (k0_pay7 (View.ld x0 (Rect.unit ![1536, 0] ![512, 2560] inb_S2560x2560_S512x2560_1536_0)) (View.ld x1 (Rect.unit ![0, 0] ![2560, 512] inb_S2560x512_S2560x512_0_0)) (View.ld x3 (Rect.unit ![0, 0] ![1, 512] inb_S1x512_S1x512_0_0))) (k0_pay8 (View.ld x0 (Rect.unit ![1536, 0] ![512, 2560] inb_S2560x2560_S512x2560_1536_0)) (View.ld x2 (Rect.unit ![0, 0] ![2560, 512] inb_S2560x512_S2560x512_0_0))) (k0_pay9 (View.ld x4 (Rect.unit ![0, 0] ![1, 512] inb_S1x512_S1x512_0_0)))⟩,
   ⟨Rect.unit (s := S2560x512) ![1024, 0] ![512, 512] inb_S2560x512_S512x512_1024_0, k0_pay6 (View.ld x0 (Rect.unit ![1024, 0] ![512, 2560] inb_S2560x2560_S512x2560_1024_0)) (View.ld x1 (Rect.unit ![0, 0] ![2560, 512] inb_S2560x512_S2560x512_0_0)) (View.ld x3 (Rect.unit ![0, 0] ![1, 512] inb_S1x512_S1x512_0_0)) (View.ld x0 (Rect.unit ![1024, 0] ![512, 2560] inb_S2560x2560_S512x2560_1024_0)) (View.ld x2 (Rect.unit ![0, 0] ![2560, 512] inb_S2560x512_S2560x512_0_0)) (View.ld x4 (Rect.unit ![0, 0] ![1, 512] inb_S1x512_S1x512_0_0))⟩,
   ⟨Rect.unit (s := S2560x512) ![512, 0] ![512, 512] inb_S2560x512_S512x512_512_0, k0_pay5 (View.ld x0 (Rect.unit ![512, 0] ![512, 2560] inb_S2560x2560_S512x2560_512_0)) (View.ld x1 (Rect.unit ![0, 0] ![2560, 512] inb_S2560x512_S2560x512_0_0)) (View.ld x3 (Rect.unit ![0, 0] ![1, 512] inb_S1x512_S1x512_0_0)) (View.ld x0 (Rect.unit ![512, 0] ![512, 2560] inb_S2560x2560_S512x2560_512_0)) (View.ld x2 (Rect.unit ![0, 0] ![2560, 512] inb_S2560x512_S2560x512_0_0)) (View.ld x4 (Rect.unit ![0, 0] ![1, 512] inb_S1x512_S1x512_0_0))⟩,
   ⟨Rect.unit (s := S2560x512) ![0, 0] ![512, 512] inb_S2560x512_S512x512_0_0, k0_pay4 (k0_pay3 (View.ld x0 (Rect.unit ![0, 0] ![512, 2560] inb_S2560x2560_S512x2560_0_0)) (View.ld x1 (Rect.unit ![0, 0] ![2560, 512] inb_S2560x512_S2560x512_0_0)) (View.ld x3 (Rect.unit ![0, 0] ![1, 512] inb_S1x512_S1x512_0_0))) (View.ld x0 (Rect.unit ![0, 0] ![512, 2560] inb_S2560x2560_S512x2560_0_0)) (View.ld x2 (Rect.unit ![0, 0] ![2560, 512] inb_S2560x512_S2560x512_0_0)) (View.ld x4 (Rect.unit ![0, 0] ![1, 512] inb_S1x512_S1x512_0_0))⟩]

/-- They cover the block. -/
theorem actCover (x0 : Vec F S2560x2560 .bf16) (x1 x2 : Vec F S2560x512 .fp8e4m3) (x3 x4 : Vec F S1x512 .f32) (y : S2560x512.Idx) :
    ∃ pc ∈ actPieces x0 x1 x2 x3 x4, y ∈ pc.1.set :=
  View.cover_of_tiledL (actPieces x0 x1 x2 x3 x4) S512x512.size (by sl_kernel_rfl) y

/-- The block they make. -/
def actBlk (x0 : Vec F S2560x2560 .bf16) (x1 x2 : Vec F S2560x512 .fp8e4m3) (x3 x4 : Vec F S1x512 .f32) : Vec F S2560x512 .bf16 :=
  View.canon (actPieces x0 x1 x2 x3 x4)

section Runs
variable (c : Dev nD) (t : Fin cfg0.N) (arg2 : Memref sig .tc .vmem S2560x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg9 : Memref sig .tc .vmem S2560x512 .bf16) (harg9 : arg9.IsWhole)
    (x0 : Vec F S2560x2560 .bf16) (x1 : Vec F S2560x512 .fp8e4m3) (x2 : Vec F S2560x512 .fp8e4m3) (x3 : Vec F S1x512 .f32) (x4 : Vec F S1x512 .f32) (W5 : HbBuf (F := F) c kIn) (W6 : HbBuf (F := F) c vIn)

/-- What a middle point stores; -/
theorem pieces_B (hc1 hc2 hc3 hc4) : (run_B c t arg2 harg2 arg3 harg3 arg4 harg4 arg5 harg5 arg6 harg6 arg9 harg9 hc1 hc2 hc3 hc4 x0 x1 x2 x3 x4 W5 W6).1 = actPieces x0 x1 x2 x3 x4 := by
  unfold run_B; dsimp only
  simp only [run_B.sl.r, run_B.sl.r_1, run_B.sl.r_2, run_B.sl.r_3, run_B.sl.r_4, View.readAt_eq_ld, harg2.read_unread, harg3.read_unread, harg4.read_unread, harg5.read_unread, harg6.read_unread]
  rfl
/-- what the first stores; -/
theorem pieces_A (hc1 hc2 hc3 hc4) : (run_A c t arg2 harg2 arg3 harg3 arg4 harg4 arg5 harg5 arg6 harg6 arg9 harg9 hc1 hc2 hc3 hc4 x0 x1 x2 x3 x4 W5 W6).1 = actPieces x0 x1 x2 x3 x4 := by
  unfold run_A; dsimp only
  simp only [run_A.sl.r, run_A.sl.r_1, run_A.sl.r_2, run_A.sl.r_3, run_A.sl.r_4, View.readAt_eq_ld, harg2.read_unread, harg3.read_unread, harg4.read_unread, harg5.read_unread, harg6.read_unread]
  rfl
/-- and what the last does. -/
theorem pieces_C (hc1 hc2 hc3 hc4) : (run_C c t arg2 harg2 arg3 harg3 arg4 harg4 arg5 harg5 arg6 harg6 arg9 harg9 hc1 hc2 hc3 hc4 x0 x1 x2 x3 x4 W5 W6).1 = actPieces x0 x1 x2 x3 x4 := by
  unfold run_C; dsimp only
  simp only [run_C.sl.r, run_C.sl.r_1, run_C.sl.r_2, run_C.sl.r_3, run_C.sl.r_4, View.readAt_eq_ld, harg2.read_unread, harg3.read_unread, harg4.read_unread, harg5.read_unread, harg6.read_unread]
  rfl

/-- The stored pieces, over whatever was there, read back as the block. -/
theorem act_read (f : HbBuf (F := F) c arg9) : arg9.view.read (Elt F) (arg9.view.writes (Elt F) f (actPieces x0 x1 x2 x3 x4)) = actBlk x0 x1 x2 x3 x4 :=
  View.read_writes_eq_canon _ _ _ (actCover x0 x1 x2 x3 x4)
end Runs

end Cert.GateUpIdeal.Hand

end
-- ==== Proof.GateUpFrame.lean ====
module

public import proofs.«01_k».proof.Proof.GateUpStores
public import Idealize.ShloMosaic.Lib.Claim

/-!
# The run of `gate_up`

The pipeline's proof data: each input's buffer holds its block, the result's block is `actBlk` of the input blocks, and
between two points the copy rings stand as `movingP` says (`homeP` at the two ends).  From them the run of the whole
call: it terminates, the arguments end as they were, the result array holds the blocks, and every counter ends at zero.
-/

@[expose] public section

set_option maxRecDepth 16384

noncomputable section

namespace Cert.GateUpIdeal.Hand

open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

/-- The body's own eight cells: the reads' four, then the writes' four. -/
abbrev osem0 : Fin 8 → SemLoc sig := fun j => (![SemLoc.dma 12, SemLoc.dma 13, SemLoc.dma 14, SemLoc.dma 15, SemLoc.dma 16, SemLoc.dma 17, SemLoc.dma 18, SemLoc.dma 19] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0
          ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3, 4, 5, 6, 7] (by decide) (by decide)]; rfl
/-- The pools the body reads, and the output pools it writes. -/
def H0 : Finset (Ref sig .tc) := {main_arg5, main_arg6}
def R0 : Finset (Ref sig .tc) := {main_v2_1, main_v2_2}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(hbPt c kIn (V m c main_arg5) ∗ hbPt c vIn (V m c main_arg6)) := by
  rw [BI.bigSep_eq_bigSepL_of_eq [main_arg5, main_arg6] (by decide) (by decide)]; rfl
theorem ownedPts0_eq (c : Dev nD) :
    (Pipeline.owned R0 c : sProp 𝕄) = iprop((∃ f, hbPt (F := F) c kOut f) ∗ (∃ f, hbPt (F := F) c vOut f)) := by
  unfold Pipeline.owned; rw [BI.bigSep_eq_bigSepL_of_eq [main_v2_1, main_v2_2] (by decide) (by decide)]; rfl
/-- All of it: the scratch, the generator register, the cells at zero, the pools and the output pools. -/
theorem PhiDR0_eq (c : Dev nD) :
    (Pipeline.ΦDR osem0 spec0 H0 R0 (V m) c : sProp 𝕄)
      = iprop((∃ d, owns (c : Thread nD τ) scM fullShare d) ∗ (∃ r, prngReg c r)
          ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0
            ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)
          ∗ iprop(hbPt c kIn (V m c main_arg5) ∗ hbPt c vIn (V m c main_arg6))
          ∗ iprop((∃ f, hbPt (F := F) c kOut f) ∗ (∃ f, hbPt (F := F) c vOut f))) := by
  rw [Pipeline.ΦDR_eq, scopedRest0_eq, ownSems00_eq, hbmPts0_eq, ownedPts0_eq]; simp only [scM, owns_whole]; try rfl

set_option maxHeartbeats 800000 in
/-- `main` up to the call: the host's reshapes, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The proof data -/

/-- The rings before point `k`. -/
def ringP (c : Dev nD) (k : ℕ) : sProp 𝕄 :=
  if k = 0 ∨ k = 38 then homeP c (V m c main_arg5) (V m c main_arg6) k else movingP c (V m c main_arg5) (V m c main_arg6) k
/-- The invariant before point `k`: the register at some state, the scratch's spare elements, and the rings. -/
def PhiR (c : Dev nD) (k : ℕ) : sProp 𝕄 := iprop((∃ r, prngReg c r) ∗ spareP (F := F) c ∗ ringP m c k)
/-- The result's block at point `t`. -/
def outsAt5 (c : Dev nD) (t : Fin cfg0.N) : Vec F S2560x512 .bf16 :=
  actBlk (iblk m c 0 t) (iblk m c 1 t) (iblk m c 2 t) (iblk m c 3 t) (iblk m c 4 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt5 m c t
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.val_castSucc]
theorem PhiR_succ (c : Dev nD) (t : Fin cfg0.N) : (dats m 0 c).Φ t.succ = PhiR m c (t.val + 1) := by
  dsimp only [dats]; simp only [Fin.val_succ]
theorem after0_5 (c : Dev nD) (t : Fin cfg0.N) : (dats m 0 c).after 5 t = outsAt5 m c t := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The rings' part of a point: from `ringP` before it to `ringP` after it, whichever of the three runs applies. -/
theorem point (c : Dev nD) (t : Fin cfg0.N) (W : Waits sig Unit) (K : PUnit → sProp 𝕄) :
    iprop(insP c (ms0_0 t) (ms0_1 t) (ms0_2 t) (ms0_3 t) (ms0_4 t) (iblk m c 0 t) (iblk m c 1 t) (iblk m c 2 t) (iblk m c 3 t) (iblk m c 4 t) ∗ (∃ d, owns (c : Thread nD τ) (ms0_5 t) fullShare d) ∗ ringP m c t.val ∗ owes (c : Thread nD τ) 0 W
        ∗ (iprop(insP c (ms0_0 t) (ms0_1 t) (ms0_2 t) (ms0_3 t) (ms0_4 t) (iblk m c 0 t) (iblk m c 1 t) (iblk m c 2 t) (iblk m c 3 t) (iblk m c 4 t)
            ∗ (∃ f, (ms0_5 t).view.loc (c : Thread nD τ) ↦[(ms0_5 t).view.set]{fullShare} (ms0_5 t).view.writes (Elt F) f (actPieces (iblk m c 0 t) (iblk m c 1 t) (iblk m c 2 t) (iblk m c 3 t) (iblk m c 4 t)))
            ∗ ringP m c (t.val + 1) ∗ (∃ W', owes (c : Thread nD τ) 0 W')) -∗ K ⟨⟩))
      ⊢ wp frame (wpE (defs₀ (F := F)) Variants.none c none) Set.univ (bodyAt0 t) K := by
  have hN : t.val < 38 := lt_of_lt_of_eq t.isLt (show cfg0.N = 38 from N_0)
  unfold ringP
  by_cases h0 : t.val = 0
  · rw [if_pos (Or.inl h0), if_neg (by omega : ¬(t.val + 1 = 0 ∨ t.val + 1 = 38))]
    have h := (run_A c t (ms0_0 t) (hs0_0 t) (ms0_1 t) (hs0_1 t) (ms0_2 t) (hs0_2 t) (ms0_3 t) (hs0_3 t) (ms0_4 t) (hs0_4 t) (ms0_5 t) (hs0_5 t)
      ((hcond1 t).mpr h0) (fun h => by have := (hcond2 t).mp h; omega) ((hcond3 t).mpr (by omega)) (fun h => by have := (hcond4 t).mp h; omega)
      (iblk m c 0 t) (iblk m c 1 t) (iblk m c 2 t) (iblk m c 3 t) (iblk m c 4 t) (V m c main_arg5) (V m c main_arg6)).2 W K
    rw [pieces_A] at h
    exact h
  · by_cases h1 : t.val = 37
    · rw [if_neg (by omega : ¬(t.val = 0 ∨ t.val = 38)), if_pos (Or.inr (by omega : t.val + 1 = 38))]
      have h := (run_C c t (ms0_0 t) (hs0_0 t) (ms0_1 t) (hs0_1 t) (ms0_2 t) (hs0_2 t) (ms0_3 t) (hs0_3 t) (ms0_4 t) (hs0_4 t) (ms0_5 t) (hs0_5 t)
        (fun h => by have := (hcond1 t).mp h; omega) ((hcond2 t).mpr (by omega)) (fun h => by have := (hcond3 t).mp h; omega) ((hcond4 t).mpr h1)
        (iblk m c 0 t) (iblk m c 1 t) (iblk m c 2 t) (iblk m c 3 t) (iblk m c 4 t) (V m c main_arg5) (V m c main_arg6)).2 W K
      rw [pieces_C] at h
      exact h
    · rw [if_neg (by omega : ¬(t.val = 0 ∨ t.val = 38)), if_neg (by omega : ¬(t.val + 1 = 0 ∨ t.val + 1 = 38))]
      have h := (run_B c t (ms0_0 t) (hs0_0 t) (ms0_1 t) (hs0_1 t) (ms0_2 t) (hs0_2 t) (ms0_3 t) (hs0_3 t) (ms0_4 t) (hs0_4 t) (ms0_5 t) (hs0_5 t)
        (fun h => by have := (hcond1 t).mp h; omega) ((hcond2 t).mpr (by omega)) ((hcond3 t).mpr (by omega)) (fun h => by have := (hcond4 t).mp h; omega)
        (iblk m c 0 t) (iblk m c 1 t) (iblk m c 2 t) (iblk m c 3 t) (iblk m c 4 t) (V m c main_arg5) (V m c main_arg6)).2 W K
      rw [pieces_B] at h
      exact h

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [after0_0, after0_1, after0_2, after0_3, after0_4, after0_5]
  rw [PhiR_castSucc m c t, PhiR_succ m c t]
  unfold Dat.owesAt Pipeline.owesWithin
  rw [show (dats m 0 c).owed t.castSucc = 0 from rfl, show (dats m 0 c).owed t.succ = 0 from rfl]
  unfold PhiR
  iintro ⟨⟨Hg, Hsp, HR⟩, ⟨%W, -, HW⟩, ⟨%d0, H0⟩, ⟨%d1, H1⟩, ⟨%d2, H2⟩, ⟨%d3, H3⟩, ⟨%d4, H4⟩, ⟨%d5, H5⟩⟩
  iapply (point m c t W _)
  isplitl [H0 H1 H2 H3 H4]
  · unfold insP
    isplitl [H0]; · iexact H0
    isplitl [H1]; · iexact H1
    isplitl [H2]; · iexact H2
    isplitl [H3]; · iexact H3
    iexact H4
  isplitl [H5]; · iexists _; iexact H5
  isplitl [HR]; · iexact HR
  isplitl [HW]; · iexact HW
  unfold insP
  iintro ⟨⟨H0, H1, H2, H3, H4⟩, ⟨%e5, H5⟩, HR, ⟨%W', HW'⟩⟩
  isplitl [Hg Hsp HR]
  · isplitl [Hg]; · iexact Hg
    isplitl [Hsp]; · iexact Hsp
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact act_read c _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The two ends -/

/-- What the launch hands over is the invariant before the first point. -/
theorem hin (c : Dev nD) : Pipeline.ΦDR osem0 spec0 H0 R0 (V m) c ⊢ (dats m 0 c).Φ 0 := by
  rw [PhiDR0_eq, show (dats m 0 c).Φ 0 = PhiR m c 0 from rfl]
  unfold PhiR ringP
  rw [if_pos (Or.inl rfl)]
  unfold homeP
  iintro ⟨HS, Hg, ⟨Hq0, Hq1, Hq2, Hq3, Hq4, Hq5, Hq6, Hq7⟩, ⟨Hk, Hv⟩, ⟨Ho, Hp⟩⟩
  ihave HS := (bufs_in (F := F) c) $$ HS
  icases HS with ⟨⟨Hb0, Hb1, Hb2, Hb3⟩, Hsp⟩
  isplitl [Hg]; · iexact Hg
  isplitl [Hsp]; · iexact Hsp
  isplitl [Hb0]; · iexact Hb0
  isplitl [Hb1]; · iexact Hb1
  isplitl [Hb2]; · iexact Hb2
  isplitl [Hb3]; · iexact Hb3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hk]; · iexact Hk
  isplitl [Hv]; · iexact Hv
  isplitl [Ho]; · iexact Ho
  iexact Hp

/-- The invariant after the last point is what the launch takes back. -/
theorem hout (c : Dev nD) : (dats m 0 c).Φ (Fin.last cfg0.N) ⊢ Pipeline.ΦDR osem0 spec0 H0 R0 (V m) c := by
  rw [PhiDR0_eq, show (dats m 0 c).Φ (Fin.last cfg0.N) = PhiR m c grid0.N from rfl]
  unfold PhiR ringP
  rw [N_0, if_pos (Or.inr rfl)]
  unfold homeP
  iintro ⟨Hg, Hsp, Hb0, Hb1, Hb2, Hb3, Hq0, Hq1, Hq2, Hq3, Hq4, Hq5, Hq6, Hq7, Hk, Hv, Ho, Hp⟩
  isplitl [Hsp Hb0 Hb1 Hb2 Hb3]
  · iapply (bufs_out (F := F) c)
    isplitl [Hb0 Hb1 Hb2 Hb3]
    · isplitl [Hb0]; · iexact Hb0
      isplitl [Hb1]; · iexact Hb1
      isplitl [Hb2]; · iexact Hb2
      iexact Hb3
    iexact Hsp
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hk Hv]
  · isplitl [Hk]; · iexact Hk
    iexact Hv
  isplitl [Ho]; · iexact Ho
  iexact Hp

/-! ## The run -/

-- the launch theorem's implicit arguments are found by unfolding plain definitions in a metavariable's type
set_option backward.isDefEq.respectTransparency.types false in
/-- The whole call: every fair execution terminates with the windows' arrays at the proof data's, every buffer but the
    output pools otherwise as the region found it, and every counter at zero. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were. -/
theorem args_of {r} (h : Pipeline.FramePostR cfgs (dats m) 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (by decide)).trans (V_main_arg2 m c),
    ((h c).1 2).trans (((dats m 0 c).arrAt_in 2 rfl _).trans ((A_eq m c 2).trans (V_main_arg3 m c))),
    ((h c).2 main_arg4 (by decide)).trans (V_main_arg4 m c),
    ((h c).2 main_arg5 (by decide)).trans (V_main_arg5 m c),
    ((h c).2 main_arg6 (by decide)).trans (V_main_arg6 m c)⟩

/-- THE FRAME: the call runs, the arguments end as they were, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_of m h.1, h.2⟩) (run_main m ρ)

end Cert.GateUpIdeal.Hand

end
-- ==== Proof.GateUpSame.lean ====
module

public import proofs.«01_k».proof.Proof.Gen.GateUp
public import proofs.«01_k».proof.Proof.GateUpFrame

/-!
# `gate_up` as compiled and as idealized are one program

No operation of `gate_up` has an ideal reading of its own, so the two printed modules differ in their names alone.  The
frame, proved for the idealized module at any reading of the floats, is the compiled module's too.
-/

@[expose] public section

set_option maxRecDepth 16384

noncomputable section

namespace Cert.GateUp.Hand

open Idealize.ShloMosaic Idealize.ShloMosaic.TcCoe
open Idealize.SL Idealize.SL.Sem

variable {F : FTy → Type} [FloatOps F]

/-- The two body tables run the same body, -/
theorem defs₀_eq : Cert.GateUp.defs₀ (F := F) = Cert.GateUpIdeal.defs₀ (F := F) := by
  unfold Cert.GateUp.defs₀ Cert.GateUpIdeal.defs₀
  refine congrArg Defs.onTc ?_
  funext l x
  match l, x with
  | 0, (i, slots) => rfl

/-- so the two pipelines are the same, -/
theorem defs_eq : Cert.GateUp.defs (F := F) = Cert.GateUpIdeal.defs (F := F) := by
  unfold Cert.GateUp.defs Cert.GateUpIdeal.defs
  exact congrArg (Pipeline.defs Cert.GateUpIdeal.pcfgs) defs₀_eq

/-- and so are the two `main`s. -/
theorem main_eq : Cert.GateUp.main (F := F) = Cert.GateUpIdeal.main (F := F) := rfl

/-- THE FRAME of the compiled module. -/
theorem frame (m : (ℓ : Loc Cert.GateUp.nD Cert.GateUp.τ Cert.GateUp.sig) → Buf (Elt F) ℓ) (ρ : Dev Cert.GateUp.nD → PrngReg) :
    θ_run (Cert.GateUp.defs (F := F)) (onTc (τ := Cert.GateUp.τ) (Cert.GateUp.main (F := F))) ⟨m, fun _ => 0, ρ⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))
      ∧ r.2.sem = fun _ => 0) := by
  rw [defs_eq, main_eq]
  exact Cert.GateUpIdeal.Hand.frame m ρ

end Cert.GateUp.Hand

end
-- ==== Proof.GateUpSpec.lean ====
module

public import proofs.«01_k».proof.GateUpIdeal
public import Idealize.ShloMosaic.Lib.Pipeline.ValueKit
public import Idealize.ShloMosaic.Lib.Pointwise

/-! The layer's gated product over the reals: the normalised rows times the two weights, the first through the sigmoid
    unit and times the second. Both programs are shown to leave this array. -/

@[expose] public section

noncomputable section

namespace Cert.GateUpIdeal.Spec

open Cert.GateUpIdeal Idealize.ShloMosaic

/-- `silu(g) * u`. -/
def gated (g u : EReal) : EReal := g * Ideal.logistic g * u

/-- `mlp_act = silu((h @ w_gate) * s_gate) * ((h @ w_up) * s_up)`. -/
def act (h : Vec Ideal S5120x2560 .bf16) (wg : Vec Ideal S2560x9728 .fp8e4m3) (sg : Vec Ideal S9728 .f32)
    (wu : Vec Ideal S2560x9728 .fp8e4m3) (su : Vec Ideal S9728 .f32) : Vec Ideal S5120x9728 .bf16 := fun y =>
  gated ((∑ k : Fin 2560, (h (ix2 (y 0) k) : EReal) * wg (ix2 k (y 1))) * sg (ix1 (y 1)))
    ((∑ k : Fin 2560, (h (ix2 (y 0) k) : EReal) * wu (ix2 k (y 1))) * su (ix1 (y 1)))

end Cert.GateUpIdeal.Spec
-- ==== Proof.GateUpBlock.lean ====
module

public import proofs.«01_k».proof.Proof.GateUpFrame
public import proofs.«01_k».proof.Proof.GateUpSpec

/-! What one grid point of `gate_up` leaves in its block of the result, over the reals. -/

@[expose] public section

set_option maxRecDepth 16384

noncomputable section

namespace Cert.GateUpIdeal.Block

open Cert.GateUpIdeal Cert.GateUpIdeal.Gen Cert.GateUpIdeal.Hand Idealize.ShloMosaic Idealize.ShloMosaic.TcCoe Idealize.SL.Sem

/-- The gated product of the point's rows and its columns of the two weights. -/
def Act (x0 : Vec Ideal S2560x2560 .bf16) (x1 x2 : Vec Ideal S2560x512 .fp8e4m3) (x3 x4 : Vec Ideal S1x512 .f32) :
    Vec Ideal S2560x512 .bf16 := fun y =>
  Spec.gated ((∑ k : Fin 2560, (x0 (ix2 (y 0) k) : EReal) * x1 (ix2 k (y 1))) * x3 (ix2 0 (y 1)))
    ((∑ k : Fin 2560, (x0 (ix2 (y 0) k) : EReal) * x2 (ix2 k (y 1))) * x4 (ix2 0 (y 1)))

/-- The five pieces of rows the body stores make that block. -/
theorem act_eq (x0 : Vec Ideal S2560x2560 .bf16) (x1 x2 : Vec Ideal S2560x512 .fp8e4m3) (x3 x4 : Vec Ideal S1x512 .f32)
    (y : S2560x512.Idx) : actBlk x0 x1 x2 x3 x4 y = Act x0 x1 x2 x3 x4 y := by
  unfold actBlk actPieces
  canon_tiles z hz
  · have hy : y = ix2 ⟨2048 + (z 0).val, by have : (z 0).val < 512 := (z 0).isLt; omega⟩ (z 1) := by
      refine (eq_ix2 y).trans ?_
      blk_ext []
    rw [hy]
    pointwise [k0_pay2, Act, Spec.gated]
  · have hy : y = ix2 ⟨1536 + (z 0).val, by have : (z 0).val < 512 := (z 0).isLt; omega⟩ (z 1) := by
      refine (eq_ix2 y).trans ?_
      blk_ext []
    rw [hy]
    pointwise [k0_pay1, k0_pay7, k0_pay8, k0_pay9, Act, Spec.gated]
  · have hy : y = ix2 ⟨1024 + (z 0).val, by have : (z 0).val < 512 := (z 0).isLt; omega⟩ (z 1) := by
      refine (eq_ix2 y).trans ?_
      blk_ext []
    rw [hy]
    pointwise [k0_pay6, Act, Spec.gated]
  · have hy : y = ix2 ⟨512 + (z 0).val, by have : (z 0).val < 512 := (z 0).isLt; omega⟩ (z 1) := by
      refine (eq_ix2 y).trans ?_
      blk_ext []
    rw [hy]
    pointwise [k0_pay5, Act, Spec.gated]
  · have hy : y = ix2 ⟨(z 0).val, by have : (z 0).val < 512 := (z 0).isLt; omega⟩ (z 1) := by
      refine (eq_ix2 y).trans ?_
      blk_ext []
    rw [hy]
    pointwise [k0_pay4, k0_pay3, Act, Spec.gated]

end Cert.GateUpIdeal.Block
-- ==== Proof.GateUpArray.lean ====
module

public import proofs.«01_k».proof.Proof.GateUpBlock

/-! What the kernel's result array holds: each block is its point's, so the array is the specification's. -/

@[expose] public section

set_option maxRecDepth 16384

noncomputable section

namespace Cert.GateUpIdeal.Array

open Cert.GateUpIdeal Cert.GateUpIdeal.Gen Cert.GateUpIdeal.Hand Cert.GateUpIdeal.Block
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 19, 0] ∧ win0_1.index t = ![0, t.val % 19] ∧
    win0_2.index t = ![0, t.val % 19] ∧ win0_3.index t = ![0, t.val % 19] ∧ win0_4.index t = ![0, t.val % 19] ∧
    win0_5.index t = ![t.val / 19, t.val % 19] :=
  (by decide +kernel : ∀ t : Fin grid0.N, _)

variable (c : Dev nD)

/-- The specification at the kernel's arguments. -/
abbrev act : Vec Ideal S5120x9728 .bf16 :=
  Spec.act (m ((c : Thread nD τ).loc main_arg0)) (m ((c : Thread nD τ).loc main_arg1)) (m ((c : Thread nD τ).loc main_arg2))
    (m ((c : Thread nD τ).loc main_arg3)) (m ((c : Thread nD τ).loc main_arg4))

/-- A point's block is the specification's, at the rows and columns of the point. -/
theorem act_block (t : Fin cfg0.N) (y : S2560x512.Idx) :
    Act (iblk m c 0 t) (iblk m c 1 t) (iblk m c 2 t) (iblk m c 3 t) (iblk m c 4 t) y =
      act m c (ix2 ⟨2560 * (t.val / 19) + (y 0).val, by have : t.val < 38 := t.isLt; have : (y 0).val < 2560 := (y 0).isLt; omega⟩
        ⟨512 * (t.val % 19) + (y 1).val, by have : (y 1).val < 512 := (y 1).isLt; omega⟩) := by
  obtain ⟨h0, h1, h2, h3, h4, h5⟩ := idx t
  unfold Act act Spec.act
  pointwise
  blk_point [iblk, V, h0, h1, h2, h3, h4]

/-- The result array. -/
theorem arr5 : (dats m 0 c).arrAt 5 cfg0.N = act m c := by
  refine (dats m 0 c).arrAt_eq_of_covers 5 _ (by decide +kernel) fun t _ y => ?_
  obtain ⟨h0, h1, h2, h3, h4, h5⟩ := idx t
  blk_simp [h5]
  rw [after0_5]
  refine (act_eq _ _ _ _ _ y).trans ((act_block m c t y).trans (congrArg (act m c) ?_))
  blk_ext [h5]

end Cert.GateUpIdeal.Array
-- ==== Proof.GateUpReference.lean ====
module

public import proofs.«01_k».proof.Proof.GateUpSpec
public import proofs.«01_k».proof.Proof.Gen.GateUpRefIdeal.Value

/-! What the reference's result array holds: the specification, computed on whole arrays. -/

@[expose] public section

set_option maxRecDepth 16384

noncomputable section

namespace Cert.GateUpRefIdeal.Array

open Cert.GateUpRefIdeal Cert.GateUpRefIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] :=
  (by decide +kernel : ∀ t : Fin grid0.N, _)

/-- The result array. -/
theorem arr5 : (dats m 0 c).arrAt 5 cfg0.N =
    GateUpIdeal.Spec.act (m ((c : Thread nD τ).loc main_arg0)) (m ((c : Thread nD τ).loc main_arg1)) (m ((c : Thread nD τ).loc main_arg2))
      (m ((c : Thread nD τ).loc main_arg3)) (m ((c : Thread nD τ).loc main_arg4)) := by
  obtain ⟨h0, h1, h2, h3, h4, h5⟩ := idx t0_0
  refine (dats m 0 c).arrAt_eq_of_after_last 5 t0_0 (by decide +kernel) _ fun j => ?_
  blk_simp
  rw [after0_5]
  frame_out
  pointwise [k0_pay1, GateUpIdeal.Spec.act, GateUpIdeal.Spec.gated]
  blk_point [iblk, V, h0, h1, h2, h3, h4, h5]

end Cert.GateUpRefIdeal.Array
-- ==== Proof.GateUpClaims.lean ====
module

public import proofs.«01_k».proof.Defs
public import proofs.«01_k».proof.Proof.GateUpSame
public import proofs.«01_k».proof.Proof.GateUpArray
public import proofs.«01_k».proof.Proof.GateUpReference

/-! The two claims of the gated product: no operation of it is read in another way over the reals, and there it computes
    what the reference computes. -/

@[expose] public section

noncomputable section

namespace Cert.Proof.GateUpClaims

open Idealize.ShloMosaic Idealize.ShloMosaic.TcCoe Idealize.SL.Sem

/-- Nothing is rewritten. -/
theorem preserves : Cert.preserves_GateUp_GateUpIdeal := trivial

/-- Over the reals the kernel leaves the reference's array. -/
theorem algebraic : Cert.algebraic_GateUpIdeal_GateUpRefIdeal := by
  intro m ρ m' ρ' _ hagree
  refine ⟨fun c => Cert.GateUpIdeal.Array.act m c,
    (θ_run Cert.GateUpIdeal.defs _ _).mono (fun _ h c => ⟨((h.1 c).1 5).trans (Cert.GateUpIdeal.Array.arr5 m c),
      Cert.GateUpIdeal.Hand.args_of m h.1 c⟩) (Cert.GateUpIdeal.Hand.run_main m ρ), ?_⟩
  refine (θ_run Cert.GateUpRefIdeal.defs _ _).mono
    (fun _ h c => ⟨(h c).1.trans ?_, (h c).2⟩) (Cert.GateUpRefIdeal.Value.run_blocks m' ρ')
  obtain ⟨h0, h1, h2, h3, h4, _⟩ := hagree c
  rw [Cert.GateUpRefIdeal.Array.arr5, h0, h1, h2, h3, h4]

end Cert.Proof.GateUpClaims
-- ==== Proof.lean ====
module

public import proofs.«01_k».proof.Defs
public import proofs.«01_k».proof.Proof.Gen.OProj
public import proofs.«01_k».proof.Proof.Gen.OProj.Frame
public import proofs.«01_k».proof.Proof.Gen.OProjIdeal
public import proofs.«01_k».proof.Proof.Gen.OProjIdeal.Frame
public import proofs.«01_k».proof.Proof.Gen.OProjIdeal.Value
public import proofs.«01_k».proof.Proof.Gen.OProjRefIdeal
public import proofs.«01_k».proof.Proof.Gen.OProjRefIdeal.Frame
public import proofs.«01_k».proof.Proof.Gen.OProjRefIdeal.Value
public import proofs.«01_k».proof.Proof.Gen.GateUp
public import proofs.«01_k».proof.Proof.Gen.GateUpIdeal
public import proofs.«01_k».proof.Proof.Gen.GateUpRefIdeal
public import proofs.«01_k».proof.Proof.Gen.GateUpRefIdeal.Frame
public import proofs.«01_k».proof.Proof.Gen.GateUpRefIdeal.Value
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Frame
public import proofs.«01_k».proof.Proof.Gen.QkvRefIdeal.Value
public import proofs.«01_k».proof.Proof.QkvClaims
public import proofs.«01_k».proof.Proof.OProjClaims
public import proofs.«01_k».proof.Proof.GateUpClaims
public import Idealize.ShloMosaic.Adequacy
public import Idealize.ShloMosaic.Init

@[expose] public section

noncomputable section

namespace Cert.Proof

open Idealize.ShloMosaic Idealize.SL.Sem

/-- The five claims of each call: the query, key and value projection, the output projection, the gated product. -/
theorem claim : Cert.Claim := ⟨Cert.Qkv.Gen.facts, Cert.QkvIdeal.Gen.facts, Cert.QkvRefIdeal.Gen.facts, Cert.OProj.Gen.facts, Cert.OProjIdeal.Gen.facts, Cert.OProjRefIdeal.Gen.facts,
  Cert.GateUp.Gen.facts, Cert.GateUpIdeal.Gen.facts, Cert.GateUpRefIdeal.Gen.facts,
  fun m ρ _ => Cert.Qkv.Gen.frame m ρ, fun m ρ _ => Cert.QkvIdeal.Gen.frame m ρ, fun m ρ _ => Cert.QkvRefIdeal.Gen.frame m ρ,
  fun m ρ _ => Cert.OProj.Gen.frame m ρ, fun m ρ _ => Cert.OProjIdeal.Gen.frame m ρ, fun m ρ _ => Cert.OProjRefIdeal.Gen.frame m ρ,
  fun m ρ _ => Cert.GateUp.Hand.frame m ρ, fun m ρ _ => Cert.GateUpIdeal.Hand.frame m ρ, fun m ρ _ => Cert.GateUpRefIdeal.Gen.frame m ρ,
  QkvClaims.preserves, QkvClaims.algebraic, OProjClaims.preserves, OProjClaims.algebraic, GateUpClaims.preserves, GateUpClaims.algebraic⟩

end Cert.Proof

end
